-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S7x128x384 : Shape := ⟨3, ![7, 128, 384]⟩
abbrev S7x128x256 : Shape := ⟨3, ![7, 128, 256]⟩
abbrev S8x128x384 : Shape := ⟨3, ![8, 128, 384]⟩
abbrev S8x128x256 : Shape := ⟨3, ![8, 128, 256]⟩
abbrev S3x7 : Shape := ⟨2, ![3, 7]⟩
abbrev S_ : Shape := ⟨0, ![]⟩
abbrev S512x384 : Shape := ⟨2, ![512, 384]⟩
abbrev S1024x384 : Shape := ⟨2, ![1024, 384]⟩
abbrev S128x384 : Shape := ⟨2, ![128, 384]⟩
abbrev S1x128x384 : Shape := ⟨3, ![1, 128, 384]⟩
abbrev S512x256 : Shape := ⟨2, ![512, 256]⟩
abbrev S1024x256 : Shape := ⟨2, ![1024, 256]⟩
abbrev S128x256 : Shape := ⟨2, ![128, 256]⟩
abbrev S1x128x256 : Shape := ⟨3, ![1, 128, 256]⟩
abbrev S1x1 : Shape := ⟨2, ![1, 1]⟩

abbrev nBuf : Space → Nat
  | .hbm => 3
  | .vmem => 13
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S7x128x384, .bf16⟩
  | .local _ .vmem, ⟨5, _⟩ => ⟨S7x128x384, .bf16⟩
  | .local _ .vmem, ⟨6, _⟩ => ⟨S7x128x256, .bf16⟩
  | .local _ .vmem, ⟨7, _⟩ => ⟨S7x128x384, .bf16⟩
  | .local _ .vmem, ⟨8, _⟩ => ⟨S7x128x384, .bf16⟩
  | .local _ .vmem, ⟨9, _⟩ => ⟨S7x128x256, .bf16⟩
  | .local _ .vmem, ⟨10, _⟩ => ⟨S8x128x384, .bf16⟩
  | .local _ .vmem, ⟨11, _⟩ => ⟨S8x128x384, .bf16⟩
  | .local _ .vmem, ⟨12, _⟩ => ⟨S8x128x256, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  (ofTc nBuf bufTy 1 87 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c1_i32_14 : BitVec 32) (c0_i32_15 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v21 : BitVec 32 := Scalar.xori v2 c1_i32_14
  let v22 : BitVec 32 := Scalar.xori v21 c0_i32_15
  let c128_i32 : BitVec 32 := 128#32
  let v23 : BitVec 32 := Scalar.muli v22 c128_i32
  let v24 : Index := Scalar.indexCast v23
  let c0_16 : Index := 0#32
  ![v24.toNat, 0]
def k0_off1_at (r : Fin 7) : BitVec 32 × BitVec 32 :=
  if r.val < 3 then
    if r.val < 1 then
      (1#32, 0#32)
    else
      if r.val < 2 then
        (1#32, 3#32)
      else
        (1#32, 4#32)
  else
    if r.val < 5 then
      if r.val < 4 then
        (1#32, 7#32)
      else
        (3#32, 0#32)
    else
      if r.val < 6 then
        (3#32, 4#32)
      else
        (4#32, 0#32)
def k0_off2 (d0 : Dev nD) (c3_i32_43 : BitVec 32) (c0_i32_44 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v65 : BitVec 32 := Scalar.xori v2 c3_i32_43
  let v66 : BitVec 32 := Scalar.xori v65 c0_i32_44
  let c128_i32_45 : BitVec 32 := 128#32
  let v67 : BitVec 32 := Scalar.muli v66 c128_i32_45
  let v68 : Index := Scalar.indexCast v67
  let c384_46 : Index := 384#32
  ![v68.toNat, 384]
def k0_off2_at (r : Fin 7) : BitVec 32 × BitVec 32 :=
  if r.val < 3 then
    if r.val < 1 then
      (3#32, 0#32)
    else
      if r.val < 2 then
        (3#32, 4#32)
      else
        (3#32, 1#32)
  else
    if r.val < 5 then
      if r.val < 4 then
        (3#32, 5#32)
      else
        (4#32, 0#32)
    else
      if r.val < 6 then
        (4#32, 1#32)
      else
        (1#32, 0#32)
def k0_off3 (d0 : Dev nD) (c4_i32_76 : BitVec 32) (c0_i32_77 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v109 : BitVec 32 := Scalar.xori v2 c4_i32_76
  let v110 : BitVec 32 := Scalar.xori v109 c0_i32_77
  let c128_i32_78 : BitVec 32 := 128#32
  let v111 : BitVec 32 := Scalar.muli v110 c128_i32_78
  let v112 : Index := Scalar.indexCast v111
  let c768_79 : Index := 768#32
  ![v112.toNat, 768]
def k0_off3_at (r : Fin 7) : BitVec 32 × BitVec 32 :=
  if r.val < 3 then
    if r.val < 1 then
      (4#32, 0#32)
    else
      if r.val < 2 then
        (4#32, 1#32)
      else
        (4#32, 3#32)
  else
    if r.val < 5 then
      if r.val < 4 then
        (4#32, 2#32)
      else
        (1#32, 0#32)
    else
      if r.val < 6 then
        (1#32, 3#32)
      else
        (3#32, 0#32)
def k0_dev4 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_104 : BitVec 32 := 1#32
  let v145 : BitVec 32 := Scalar.xori v2 c1_i32_104
  let c1_i32_111 : BitVec 32 := 1#32
  let v146 : BitVec 32 := Scalar.muli v145 c1_i32_111
  let v147 : BitVec 32 := Scalar.addi c0_i32_112 v146
  v147.toNat
def k0_dev5 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_117 : BitVec 32 := 1#32
  let v156 : BitVec 32 := Scalar.xori v2 c1_i32_117
  let c1_i32_124 : BitVec 32 := 1#32
  let v157 : BitVec 32 := Scalar.muli v156 c1_i32_124
  let v158 : BitVec 32 := Scalar.addi c0_i32_125 v157
  v158.toNat
def k0_dev6 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_130 : BitVec 32 := 1#32
  let v167 : BitVec 32 := Scalar.xori v2 c1_i32_130
  let c1_i32_137 : BitVec 32 := 1#32
  let v168 : BitVec 32 := Scalar.muli v167 c1_i32_137
  let v169 : BitVec 32 := Scalar.addi c0_i32_138 v168
  v169.toNat
def k0_dev7 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_143 : BitVec 32 := 1#32
  let v178 : BitVec 32 := Scalar.xori v2 c1_i32_143
  let c1_i32_150 : BitVec 32 := 1#32
  let v179 : BitVec 32 := Scalar.muli v178 c1_i32_150
  let v180 : BitVec 32 := Scalar.addi c0_i32_151 v179
  v180.toNat
def k0_dev8 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_156 : BitVec 32 := 3#32
  let v189 : BitVec 32 := Scalar.xori v2 c3_i32_156
  let c1_i32_163 : BitVec 32 := 1#32
  let v190 : BitVec 32 := Scalar.muli v189 c1_i32_163
  let v191 : BitVec 32 := Scalar.addi c0_i32_164 v190
  v191.toNat
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_169 : BitVec 32 := 3#32
  let v200 : BitVec 32 := Scalar.xori v2 c3_i32_169
  let c1_i32_176 : BitVec 32 := 1#32
  let v201 : BitVec 32 := Scalar.muli v200 c1_i32_176
  let v202 : BitVec 32 := Scalar.addi c0_i32_177 v201
  v202.toNat
def k0_dev10 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_182 : BitVec 32 := 3#32
  let v211 : BitVec 32 := Scalar.xori v2 c3_i32_182
  let c1_i32_189 : BitVec 32 := 1#32
  let v212 : BitVec 32 := Scalar.muli v211 c1_i32_189
  let v213 : BitVec 32 := Scalar.addi c0_i32_190 v212
  v213.toNat
def k0_dev11 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_195 : BitVec 32 := 3#32
  let v222 : BitVec 32 := Scalar.xori v2 c3_i32_195
  let c1_i32_202 : BitVec 32 := 1#32
  let v223 : BitVec 32 := Scalar.muli v222 c1_i32_202
  let v224 : BitVec 32 := Scalar.addi c0_i32_203 v223
  v224.toNat
def k0_dev12 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_208 : BitVec 32 := 4#32
  let v233 : BitVec 32 := Scalar.xori v2 c4_i32_208
  let c1_i32_215 : BitVec 32 := 1#32
  let v234 : BitVec 32 := Scalar.muli v233 c1_i32_215
  let v235 : BitVec 32 := Scalar.addi c0_i32_216 v234
  v235.toNat
def k0_dev13 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_221 : BitVec 32 := 4#32
  let v244 : BitVec 32 := Scalar.xori v2 c4_i32_221
  let c1_i32_228 : BitVec 32 := 1#32
  let v245 : BitVec 32 := Scalar.muli v244 c1_i32_228
  let v246 : BitVec 32 := Scalar.addi c0_i32_229 v245
  v246.toNat
def k0_dev14 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_234 : BitVec 32 := 4#32
  let v255 : BitVec 32 := Scalar.xori v2 c4_i32_234
  let c1_i32_241 : BitVec 32 := 1#32
  let v256 : BitVec 32 := Scalar.muli v255 c1_i32_241
  let v257 : BitVec 32 := Scalar.addi c0_i32_242 v256
  v257.toNat
def k0_dev15 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_247 : BitVec 32 := 4#32
  let v266 : BitVec 32 := Scalar.xori v2 c4_i32_247
  let c1_i32_254 : BitVec 32 := 1#32
  let v267 : BitVec 32 := Scalar.muli v266 c1_i32_254
  let v268 : BitVec 32 := Scalar.addi c0_i32_255 v267
  v268.toNat
def k0_dev16 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_293 : BitVec 32 := 3#32
  let v306 : BitVec 32 := Scalar.xori v2 c3_i32_293
  let c1_i32_300 : BitVec 32 := 1#32
  let v307 : BitVec 32 := Scalar.muli v306 c1_i32_300
  let v308 : BitVec 32 := Scalar.addi c0_i32_301 v307
  v308.toNat
def k0_dev17 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_315 : BitVec 32 := 3#32
  let v330 : BitVec 32 := Scalar.xori v2 c3_i32_315
  let c1_i32_322 : BitVec 32 := 1#32
  let v331 : BitVec 32 := Scalar.muli v330 c1_i32_322
  let v332 : BitVec 32 := Scalar.addi c0_i32_323 v331
  v332.toNat
def k0_dev18 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_362 : BitVec 32 := 4#32
  let v370 : BitVec 32 := Scalar.xori v2 c4_i32_362
  let c1_i32_369 : BitVec 32 := 1#32
  let v371 : BitVec 32 := Scalar.muli v370 c1_i32_369
  let v372 : BitVec 32 := Scalar.addi c0_i32_370 v371
  v372.toNat
def k0_dev19 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_385 : BitVec 32 := 4#32
  let v394 : BitVec 32 := Scalar.xori v2 c4_i32_385
  let c1_i32_392 : BitVec 32 := 1#32
  let v395 : BitVec 32 := Scalar.muli v394 c1_i32_392
  let v396 : BitVec 32 := Scalar.addi c0_i32_393 v395
  v396.toNat
def k0_dev20 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_432 : BitVec 32 := 1#32
  let v434 : BitVec 32 := Scalar.xori v2 c1_i32_432
  let c1_i32_439 : BitVec 32 := 1#32
  let v435 : BitVec 32 := Scalar.muli v434 c1_i32_439
  let v436 : BitVec 32 := Scalar.addi c0_i32_440 v435
  v436.toNat
def k0_dev21 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_455 : BitVec 32 := 1#32
  let v458 : BitVec 32 := Scalar.xori v2 c1_i32_455
  let c1_i32_462 : BitVec 32 := 1#32
  let v459 : BitVec 32 := Scalar.muli v458 c1_i32_462
  let v460 : BitVec 32 := Scalar.addi c0_i32_463 v459
  v460.toNat
def k0_off4 (d0 : Dev nD) (c0_i32_480 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v477 : BitVec 32 := Scalar.xori v2 c0_i32_480
  let c128_i32_481 : BitVec 32 := 128#32
  let v478 : BitVec 32 := Scalar.muli v477 c128_i32_481
  let v479 : Index := Scalar.indexCast v478
  let c0_482 : Index := 0#32
  ![v479.toNat, 0]
def k0_off5 (d0 : Dev nD) (c0_i32_518 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v517 : BitVec 32 := Scalar.xori v2 c0_i32_518
  let c128_i32_519 : BitVec 32 := 128#32
  let v518 : BitVec 32 := Scalar.muli v517 c128_i32_519
  let v519 : Index := Scalar.indexCast v518
  let c384_520 : Index := 384#32
  ![v519.toNat, 384]
def k0_off6 (d0 : Dev nD) (c0_i32_556 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v557 : BitVec 32 := Scalar.xori v2 c0_i32_556
  let c128_i32_557 : BitVec 32 := 128#32
  let v558 : BitVec 32 := Scalar.muli v557 c128_i32_557
  let v559 : Index := Scalar.indexCast v558
  let c768_558 : Index := 768#32
  ![v559.toNat, 768]
def k0_dev22 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_603 : BitVec 32 := 4#32
  let v610 : BitVec 32 := Scalar.xori v2 c4_i32_603
  let c1_i32_609 : BitVec 32 := 1#32
  let v611 : BitVec 32 := Scalar.muli v610 c1_i32_609
  let v612 : BitVec 32 := Scalar.addi c0_i32_610 v611
  v612.toNat
def k0_dev23 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_637 : BitVec 32 := 1#32
  let v642 : BitVec 32 := Scalar.xori v2 c1_i32_637
  let c1_i32_644 : BitVec 32 := 1#32
  let v643 : BitVec 32 := Scalar.muli v642 c1_i32_644
  let v644 : BitVec 32 := Scalar.addi c0_i32_645 v643
  v644.toNat
def k0_dev24 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_672 : BitVec 32 := 3#32
  let v674 : BitVec 32 := Scalar.xori v2 c3_i32_672
  let c1_i32_679 : BitVec 32 := 1#32
  let v675 : BitVec 32 := Scalar.muli v674 c1_i32_679
  let v676 : BitVec 32 := Scalar.addi c0_i32_680 v675
  v676.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_754 : BitVec 32 := 128#32
  let v753 : BitVec 32 := Scalar.muli v2 c128_i32_754
  let v754 : Index := Scalar.indexCast v753
  let c0_755 : Index := 0#32
  ![v754.toNat, 0]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v766 : Index := Scalar.indexCast v2
  let c0_760 : Index := 0#32
  let c0_761 : Index := 0#32
  ![v766.toNat, 0, 0]
def k0_off9 (d0 : Dev nD) (c0_i32_762 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v770 : BitVec 32 := Scalar.xori v2 c0_i32_762
  let c0_i32_770 : BitVec 32 := 0#32
  let c0_i32_771 : BitVec 32 := 0#32
  ![v770.toNat, 0, 0]
def k0_off9_at (r : Fin 6) : BitVec 32 :=
  if r.val < 3 then
    if r.val < 1 then
      0#32
    else
      if r.val < 2 then
        4#32
      else
        1#32
  else
    if r.val < 4 then
      3#32
    else
      if r.val < 5 then
        7#32
      else
        5#32
def k0_dev25 (d0 : Dev nD) : Nat :=
  let c0_i32_769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_763 : BitVec 32 := 4#32
  let v771 : BitVec 32 := Scalar.xori v2 c4_i32_763
  let c1_i32_768 : BitVec 32 := 1#32
  let v772 : BitVec 32 := Scalar.muli v771 c1_i32_768
  let v773 : BitVec 32 := Scalar.addi c0_i32_769 v772
  v773.toNat
def k0_dev26 (d0 : Dev nD) : Nat :=
  let c0_i32_780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_774 : BitVec 32 := 3#32
  let v782 : BitVec 32 := Scalar.xori v2 c3_i32_774
  let c1_i32_779 : BitVec 32 := 1#32
  let v783 : BitVec 32 := Scalar.muli v782 c1_i32_779
  let v784 : BitVec 32 := Scalar.addi c0_i32_780 v783
  v784.toNat
def k0_dev27 (d0 : Dev nD) : Nat :=
  let c0_i32_791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_785 : BitVec 32 := 1#32
  let v793 : BitVec 32 := Scalar.xori v2 c1_i32_785
  let c1_i32_790 : BitVec 32 := 1#32
  let v794 : BitVec 32 := Scalar.muli v793 c1_i32_790
  let v795 : BitVec 32 := Scalar.addi c0_i32_791 v794
  v795.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_808 : BitVec 32 := 128#32
  let v812 : BitVec 32 := Scalar.muli v2 c128_i32_808
  let v813 : Index := Scalar.indexCast v812
  let c384_809 : Index := 384#32
  ![v813.toNat, 384]
def k0_dev28 (d0 : Dev nD) : Nat :=
  let c0_i32_823 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_817 : BitVec 32 := 1#32
  let v830 : BitVec 32 := Scalar.xori v2 c1_i32_817
  let c1_i32_822 : BitVec 32 := 1#32
  let v831 : BitVec 32 := Scalar.muli v830 c1_i32_822
  let v832 : BitVec 32 := Scalar.addi c0_i32_823 v831
  v832.toNat
def k0_dev29 (d0 : Dev nD) : Nat :=
  let c0_i32_834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_828 : BitVec 32 := 4#32
  let v841 : BitVec 32 := Scalar.xori v2 c4_i32_828
  let c1_i32_833 : BitVec 32 := 1#32
  let v842 : BitVec 32 := Scalar.muli v841 c1_i32_833
  let v843 : BitVec 32 := Scalar.addi c0_i32_834 v842
  v843.toNat
def k0_dev30 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_839 : BitVec 32 := 3#32
  let v852 : BitVec 32 := Scalar.xori v2 c3_i32_839
  let c1_i32_844 : BitVec 32 := 1#32
  let v853 : BitVec 32 := Scalar.muli v852 c1_i32_844
  let v854 : BitVec 32 := Scalar.addi c0_i32_845 v853
  v854.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_862 : BitVec 32 := 128#32
  let v871 : BitVec 32 := Scalar.muli v2 c128_i32_862
  let v872 : Index := Scalar.indexCast v871
  let c768_863 : Index := 768#32
  ![v872.toNat, 768]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v884 : Index := Scalar.indexCast v2
  let c0_868 : Index := 0#32
  let c0_869 : Index := 0#32
  ![v884.toNat, 0, 0]
def k0_off13 (d0 : Dev nD) (c0_i32_870 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v888 : BitVec 32 := Scalar.xori v2 c0_i32_870
  let c0_i32_878 : BitVec 32 := 0#32
  let c0_i32_879 : BitVec 32 := 0#32
  ![v888.toNat, 0, 0]
def k0_dev31 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_871 : BitVec 32 := 3#32
  let v889 : BitVec 32 := Scalar.xori v2 c3_i32_871
  let c1_i32_876 : BitVec 32 := 1#32
  let v890 : BitVec 32 := Scalar.muli v889 c1_i32_876
  let v891 : BitVec 32 := Scalar.addi c0_i32_877 v890
  v891.toNat
def k0_dev32 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_882 : BitVec 32 := 1#32
  let v900 : BitVec 32 := Scalar.xori v2 c1_i32_882
  let c1_i32_887 : BitVec 32 := 1#32
  let v901 : BitVec 32 := Scalar.muli v900 c1_i32_887
  let v902 : BitVec 32 := Scalar.addi c0_i32_888 v901
  v902.toNat
def k0_dev33 (d0 : Dev nD) : Nat :=
  let c0_i32_899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_893 : BitVec 32 := 4#32
  let v911 : BitVec 32 := Scalar.xori v2 c4_i32_893
  let c1_i32_898 : BitVec 32 := 1#32
  let v912 : BitVec 32 := Scalar.muli v911 c1_i32_898
  let v913 : BitVec 32 := Scalar.addi c0_i32_899 v912
  v913.toNat
def k0_dev34 (d0 : Dev nD) : Nat :=
  let c0_i32_921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_915 : BitVec 32 := 3#32
  let v931 : BitVec 32 := Scalar.xori v2 c3_i32_915
  let c1_i32_920 : BitVec 32 := 1#32
  let v932 : BitVec 32 := Scalar.muli v931 c1_i32_920
  let v933 : BitVec 32 := Scalar.addi c0_i32_921 v932
  v933.toNat
def k0_dev35 (d0 : Dev nD) : Nat :=
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_926 : BitVec 32 := 1#32
  let v942 : BitVec 32 := Scalar.xori v2 c1_i32_926
  let c1_i32_931 : BitVec 32 := 1#32
  let v943 : BitVec 32 := Scalar.muli v942 c1_i32_931
  let v944 : BitVec 32 := Scalar.addi c0_i32_932 v943
  v944.toNat
def k0_off14 (d0 : Dev nD) (c4_i32_937 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v953 : BitVec 32 := Scalar.xori v2 c4_i32_937
  let v954 : Index := Scalar.indexCast v953
  let c0_938 : Index := 0#32
  let c0_939 : Index := 0#32
  ![v954.toNat, 0, 0]
def k0_dev36 (d0 : Dev nD) : Nat :=
  let c0_i32_959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_953 : BitVec 32 := 4#32
  let v970 : BitVec 32 := Scalar.xori v2 c4_i32_953
  let c1_i32_958 : BitVec 32 := 1#32
  let v971 : BitVec 32 := Scalar.muli v970 c1_i32_958
  let v972 : BitVec 32 := Scalar.addi c0_i32_959 v971
  v972.toNat
def k0_dev37 (d0 : Dev nD) : Nat :=
  let c0_i32_970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_964 : BitVec 32 := 3#32
  let v981 : BitVec 32 := Scalar.xori v2 c3_i32_964
  let c1_i32_969 : BitVec 32 := 1#32
  let v982 : BitVec 32 := Scalar.muli v981 c1_i32_969
  let v983 : BitVec 32 := Scalar.addi c0_i32_970 v982
  v983.toNat
def k0_dev38 (d0 : Dev nD) : Nat :=
  let c0_i32_997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_991 : BitVec 32 := 1#32
  let v1009 : BitVec 32 := Scalar.xori v2 c1_i32_991
  let c1_i32_996 : BitVec 32 := 1#32
  let v1010 : BitVec 32 := Scalar.muli v1009 c1_i32_996
  let v1011 : BitVec 32 := Scalar.addi c0_i32_997 v1010
  v1011.toNat
def k0_dev39 (d0 : Dev nD) : Nat :=
  let c0_i32_1008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1002 : BitVec 32 := 4#32
  let v1020 : BitVec 32 := Scalar.xori v2 c4_i32_1002
  let c1_i32_1007 : BitVec 32 := 1#32
  let v1021 : BitVec 32 := Scalar.muli v1020 c1_i32_1007
  let v1022 : BitVec 32 := Scalar.addi c0_i32_1008 v1021
  v1022.toNat
def k0_off15 (d0 : Dev nD) (c3_i32_1013 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1031 : BitVec 32 := Scalar.xori v2 c3_i32_1013
  let v1032 : Index := Scalar.indexCast v1031
  let c0_1014 : Index := 0#32
  let c0_1015 : Index := 0#32
  ![v1032.toNat, 0, 0]
def k0_dev40 (d0 : Dev nD) : Nat :=
  let c0_i32_1035 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1029 : BitVec 32 := 1#32
  let v1048 : BitVec 32 := Scalar.xori v2 c1_i32_1029
  let c1_i32_1034 : BitVec 32 := 1#32
  let v1049 : BitVec 32 := Scalar.muli v1048 c1_i32_1034
  let v1050 : BitVec 32 := Scalar.addi c0_i32_1035 v1049
  v1050.toNat
def k0_dev41 (d0 : Dev nD) : Nat :=
  let c0_i32_1062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1056 : BitVec 32 := 3#32
  let v1076 : BitVec 32 := Scalar.xori v2 c3_i32_1056
  let c1_i32_1061 : BitVec 32 := 1#32
  let v1077 : BitVec 32 := Scalar.muli v1076 c1_i32_1061
  let v1078 : BitVec 32 := Scalar.addi c0_i32_1062 v1077
  v1078.toNat
def k0_dev42 (d0 : Dev nD) : Nat :=
  let c0_i32_1089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1083 : BitVec 32 := 4#32
  let v1104 : BitVec 32 := Scalar.xori v2 c4_i32_1083
  let c1_i32_1088 : BitVec 32 := 1#32
  let v1105 : BitVec 32 := Scalar.muli v1104 c1_i32_1088
  let v1106 : BitVec 32 := Scalar.addi c0_i32_1089 v1105
  v1106.toNat
def k0_dev43 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1110 : BitVec 32 := 1#32
  let v1132 : BitVec 32 := Scalar.xori v2 c1_i32_1110
  let c1_i32_1115 : BitVec 32 := 1#32
  let v1133 : BitVec 32 := Scalar.muli v1132 c1_i32_1115
  let v1134 : BitVec 32 := Scalar.addi c0_i32_1116 v1133
  v1134.toNat
def k0_dev44 (d0 : Dev nD) : Nat :=
  let c0_i32_1143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1137 : BitVec 32 := 3#32
  let v1160 : BitVec 32 := Scalar.xori v2 c3_i32_1137
  let c1_i32_1142 : BitVec 32 := 1#32
  let v1161 : BitVec 32 := Scalar.muli v1160 c1_i32_1142
  let v1162 : BitVec 32 := Scalar.addi c0_i32_1143 v1161
  v1162.toNat
def k0_dev45 (d0 : Dev nD) : Nat :=
  let c0_i32_1170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1164 : BitVec 32 := 4#32
  let v1188 : BitVec 32 := Scalar.xori v2 c4_i32_1164
  let c1_i32_1169 : BitVec 32 := 1#32
  let v1189 : BitVec 32 := Scalar.muli v1188 c1_i32_1169
  let v1190 : BitVec 32 := Scalar.addi c0_i32_1170 v1189
  v1190.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Common.lean ====
/-
# The transfers, the buffers, the values and the schedule

Every device reduces its partial product over the mesh in three exchange steps (a reduce-scatter) and then spreads
its own rows of the result in three more (an all-gather). The work is cut into three column stripes, and a transfer
is named by a triple: which half, which stripe, which of its seven slots. This module fixes, for each transfer, the peer, the
buffers, the semaphores, the order in which the program issues it and what it carries.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Transfers -/

/-- A transfer: `true` for the all-gather, the stripe, the slot. -/
abbrev Tx := Bool × Fin 3 × Fin 7

/-- The three exchange masks. -/
def mk : Fin 3 → Fin 8 := ![1, 3, 4]

/-- The device whose number differs by the mask. -/
def px (m : Fin 8) (c : Dev nD) : Dev nD := ⟨(c.val ^^^ m.val) % 8, Nat.mod_lt _ (by decide)⟩

theorem px_px (m : Fin 8) (c : Dev nD) : px m (px m c) = c := by revert m c; decide +kernel
theorem px_zero (c : Dev nD) : px 0 c = c := by revert c; decide +kernel

def pxE (m : Fin 8) : Dev nD ≃ Dev nD := ⟨px m, px m, px_px m, px_px m⟩

/-- The exchange step of a transfer, from 0 to 2 in each half. -/
def stp (i : Tx) : Fin 3 := if i.1 then ![2, 1, 1, 0, 0, 0, 0] i.2.2 else ![0, 0, 0, 0, 1, 1, 2] i.2.2
/-- Which of the three masks a transfer crosses. -/
def mi (i : Tx) : Fin 3 := i.2.1 + stp i
def msk (i : Tx) : Fin 8 := mk (mi i)
/-- The label of the rows a transfer carries, relative to its sender. -/
def lab (i : Tx) : Fin 8 :=
  if i.1 then ![0, 0, mk (i.2.1 + 2), 0, mk (i.2.1 + 2), mk (i.2.1 + 1), mk (i.2.1 + 1) ^^^ mk (i.2.1 + 2)] i.2.2
  else ![0, mk (i.2.1 + 1), mk (i.2.1 + 2), mk (i.2.1 + 1) ^^^ mk (i.2.1 + 2), 0, mk (i.2.1 + 2), 0] i.2.2

def peer (i : Tx) (c : Dev nD) : Dev nD := px (msk i) c
theorem peer_peer (i : Tx) (c : Dev nD) : peer i (peer i c) = c := px_px _ c

/-- Where a transfer stands in the order the program issues them. -/
def ix (i : Tx) : ℕ :=
  if i.1 then ![21 + 3 * i.2.1.val, 22 + 3 * i.2.1.val, 30 + 2 * i.2.1.val, 23 + 3 * i.2.1.val, 31 + 2 * i.2.1.val, 36 + i.2.1.val, 39 + i.2.1.val] i.2.2
  else ![4 * i.2.1.val, 4 * i.2.1.val + 1, 4 * i.2.1.val + 2, 4 * i.2.1.val + 3, 12 + 2 * i.2.1.val, 13 + 2 * i.2.1.val, 18 + i.2.1.val] i.2.2
/-- Where the wait for a transfer's arrival stands in the order the program makes them. -/
def wx (i : Tx) : ℕ :=
  if i.1 then 21 + 3 * i.2.2.val + i.2.1.val
  else ![6 + 2 * i.2.1.val, 2 * i.2.1.val, 7 + 2 * i.2.1.val, 2 * i.2.1.val + 1, 15 + i.2.1.val, 12 + i.2.1.val, 18 + i.2.1.val] i.2.2
theorem ix_inj : ∀ i j : Tx, ix i = ix j → i = j := by decide +kernel
theorem wx_inj : ∀ i j : Tx, wx i = wx j → i = j := by decide +kernel
theorem ix_lt : ∀ i : Tx, ix i < 42 := by decide +kernel
theorem wx_lt : ∀ i : Tx, wx i < 42 := by decide +kernel

/-- The level of a transfer's arrival. -/
def lvl (i : Tx) : ℕ := if i.1 then 5 + i.2.2.val else 2 + (stp i).val

/-! ## Semaphores -/

theorem tx_lt : ∀ i : Tx, (if i.1 then 42 else 0) + 7 * i.2.1.val + i.2.2.val < 63 := by decide +kernel

def sendQ (i : Tx) : DmaSem sig := ⟨3 + ((if i.1 then 42 else 0) + 7 * i.2.1.val + i.2.2.val), by
  have := tx_lt i; show _ < 87; omega⟩
def recvQ (i : Tx) : DmaSem sig := ⟨24 + ((if i.1 then 42 else 0) + 7 * i.2.1.val + i.2.2.val), by
  have := tx_lt i; show _ < 87; omega⟩

abbrev barS : Sem sig := (SemArray.scalar (sig.barrier 0 rfl) : Sems sig S_).sem

/-- The cells of a device: the barrier, or the send (`false`) or receive (`true`) cell of a transfer. -/
abbrev Ck := Option (Bool × Tx)

def csem : Ck → SemLoc sig
  | none => .reg barS
  | some (false, i) => .dma (sendQ i)
  | some (true, i) => .dma (recvQ i)

/-- The cell a DMA semaphore's number names. -/
def undoN (n : ℕ) : Option Ck :=
  if n < 3 then none
  else some (some (decide ((n - 3) / 21 % 2 = 1), decide (42 ≤ n - 3), ⟨(n - 3) % 21 / 7 % 3, Nat.mod_lt _ (by decide)⟩, ⟨(n - 3) % 7, Nat.mod_lt _ (by decide)⟩))
def undo : SemLoc sig → Option Ck
  | .reg q => if q = barS then some none else none
  | .dma q => undoN q.val

theorem undo_some : ∀ x : Bool × Tx, undo (csem (some x)) = some (some x) := by
  have h : ∀ (b : Bool) (i : Tx), undoN (if b then (recvQ i).val else (sendQ i).val) = some (some (b, i)) := by decide +kernel
  rintro ⟨b, i⟩
  cases b
  · exact h false i
  · exact h true i
theorem undo_csem (k : Ck) : undo (csem k) = some k := by
  cases k with
  | none => show (if barS = barS then some none else none) = _; exact if_pos rfl
  | some x => exact undo_some x
theorem csem_inj : Function.Injective csem := fun a b h => by
  have := congrArg undo h; rw [undo_csem, undo_csem] at this; exact Option.some.inj this

abbrev kcell (c : Dev nD) (k : Ck) : GSem nD τ sig := ((c : Thread nD τ), csem k)
abbrev barCell (c : Dev nD) : GSem nD τ sig := kcell c none
abbrev sendCell (c : Dev nD) (i : Tx) : GSem nD τ sig := kcell c (some (false, i))
abbrev recvCell (c : Dev nD) (i : Tx) : GSem nD τ sig := kcell c (some (true, i))

theorem kcell_inj {c c' : Dev nD} {k k' : Ck} (h : kcell c k = kcell c' k') : c = c' ∧ k = k' :=
  ⟨congrArg (fun g : GSem nD τ sig => g.1.1) h, csem_inj (congrArg Prod.snd h)⟩

/-! ## Buffers -/

/-- A stripe's width and first column. -/
abbrev wid : Fin 3 → ℕ := fun | 0 => 384 | 1 => 384 | 2 => 256
abbrev col : Fin 3 → ℕ := fun | 0 => 0 | 1 => 384 | 2 => 768

/-- A stripe's chunk of 128 rows, as a value, and as a slot of a buffer. -/
abbrev SC (r : Fin 3) : Shape := ⟨2, ![128, wid r]⟩
abbrev SU (r : Fin 3) : Shape := ⟨3, ![1, 128, wid r]⟩
abbrev SB (n : ℕ) (r : Fin 3) : Shape := ⟨3, ![n, 128, wid r]⟩

def rb : (r : Fin 3) → Memref sig .tc .vmem (SB 7 r) .bf16
  | 0 => Memref.whole cc0_scratch1 | 1 => Memref.whole cc0_scratch2 | 2 => Memref.whole cc0_scratch3
def sb : (r : Fin 3) → Memref sig .tc .vmem (SB 7 r) .bf16
  | 0 => Memref.whole cc0_scratch4 | 1 => Memref.whole cc0_scratch5 | 2 => Memref.whole cc0_scratch6
def gb : (r : Fin 3) → Memref sig .tc .vmem (SB 8 r) .bf16
  | 0 => Memref.whole cc0_scratch7 | 1 => Memref.whole cc0_scratch8 | 2 => Memref.whole cc0_scratch9

theorem upc : (r : Fin 3) → (SC r).ShapeCasts (SU r)
  | 0 => by decide | 1 => by decide | 2 => by decide
theorem dnc : (r : Fin 3) → (SU r).ShapeCasts (SC r)
  | 0 => by decide | 1 => by decide | 2 => by decide
theorem sqz : (r : Fin 3) → (SU r).Squeezes (SC r)
  | 0 => by decide | 1 => by decide | 2 => by decide

theorem slot_inb {n j : ℕ} (r : Fin 3) (h : j < n) : ∀ a, (![j, 0, 0] : Fin 3 → ℕ) a + (SU r).size a ≤ (SB n r).size a := fun a => by
  fin_cases a
  · exact h
  · exact Nat.le_of_eq (Nat.zero_add _)
  · exact Nat.le_of_eq (Nat.zero_add _)

/-- The rectangle of slot `j`. -/
abbrev slotR {n : ℕ} (r : Fin 3) (j : ℕ) (h : j < n) : Rect (SB n r) := Rect.unit (s := SB n r) ![j, 0, 0] (SU r).size (slot_inb r h)
/-- Slot `j` of a buffer, its first axis dropped. -/
abbrev slotM {n : ℕ} (r : Fin 3) (m : Memref sig .tc .vmem (SB n r) .bf16) (j : ℕ) (h : j < n) : Memref sig .tc .vmem (SC r) .bf16 :=
  (m.slice (slotR r j h) (fun _ => rfl)).squeeze (SC r) (sqz r)

/-- Own rows of the gather buffer, or the rows of device `d`. -/
abbrev gch (r : Fin 3) (d : Dev nD) : Memref sig .tc .vmem (SC r) .bf16 := slotM r (gb r) d.val d.isLt

/-- What a transfer reads at its sender `c`, and what it fills at its receiver. -/
def srcM (c : Dev nD) : (i : Tx) → Memref sig .tc .vmem (SC i.2.1) .bf16
  | (false, r, k) => slotM r (sb r) k.val k.isLt
  | (true, r, k) => gch r (px (lab (true, r, k)) c)
def dstM (c : Dev nD) : (i : Tx) → Memref sig .tc .vmem (SC i.2.1) .bf16
  | (false, r, k) => slotM r (rb r) k.val k.isLt
  | (true, r, k) => gch r (px (lab (true, r, k)) c)

/-- A transfer's amount. -/
def crd (i : Tx) : ℕ := (dstM 0 i).view.dmaCredit
theorem crd_eq (c : Dev nD) : ∀ i : Tx, (dstM c i).view.dmaCredit = crd i
  | (false, r, k) => rfl
  | (true, 0, k) => rfl
  | (true, 1, k) => rfl
  | (true, 2, k) => rfl
theorem numel_pos : (r : Fin 3) → 0 < (SC r).numel
  | 0 => by decide | 1 => by decide | 2 => by decide
theorem crd_pos (i : Tx) : 0 < crd i := View.dmaCredit_pos _ (numel_pos i.2.1)

/-- The share of the gather rows a transfer reads with; the reduce-scatter's slots are read whole. -/
def shr (i : Tx) : PosShare TreeShare :=
  if i.1 then ![fullShare.left, fullShare.right.left, fullShare.right.left, fullShare.right.right, fullShare.right.right, fullShare.right, fullShare.right] i.2.2
  else fullShare
/-- The share a device keeps of what a transfer has brought it, once the forwarding transfers have theirs. -/
def kp (i : Tx) : PosShare TreeShare :=
  if i.1 then ![fullShare.left, fullShare.left, fullShare.left, fullShare, fullShare, fullShare, fullShare] i.2.2 else fullShare

/-! ## Values -/

/-- A chunk's value raised to a slot's shape. -/
def up (r : Fin 3) {e : EltTy} (X : Vec F (SC r) e) : Vec F (SU r) e := shapeCast (SU r) X (upc r)
abbrev tr {r : Fin 3} (X : FVec F (SC r) .f32) : FVec F (SC r) .bf16 := truncf .bf16 X bitsLt_bf16_f32
abbrev ex {r : Fin 3} (X : FVec F (SC r) .bf16) : FVec F (SC r) .f32 := extf .f32 X bitsLt_bf16_f32

/-- The columns of a stripe in the right factor; a chunk's rectangle in the full square. -/
theorem bcol_inb : (r : Fin 3) → ∀ a, (![0, col r] : Fin 2 → ℕ) a + (⟨2, ![512, wid r]⟩ : Shape).size a ≤ S512x1024.size a
  | 0 => by decide | 1 => by decide | 2 => by decide
abbrev bcol (r : Fin 3) : Rect S512x1024 := Rect.unit (s := S512x1024) ![0, col r] (⟨2, ![512, wid r]⟩ : Shape).size (bcol_inb r)
theorem pcol_inb : (r : Fin 3) → ∀ a, (![0, col r] : Fin 2 → ℕ) a + (⟨2, ![1024, wid r]⟩ : Shape).size a ≤ S1024x1024.size a
  | 0 => by decide | 1 => by decide | 2 => by decide
abbrev pcol (r : Fin 3) : Rect S1024x1024 := Rect.unit (s := S1024x1024) ![0, col r] (⟨2, ![1024, wid r]⟩ : Shape).size (pcol_inb r)
theorem chk_inb (r : Fin 3) (q : Dev nD) : ∀ a, (![128 * q.val, col r] : Fin 2 → ℕ) a + (SC r).size a ≤ S1024x1024.size a := by
  revert r q; decide +kernel
abbrev chk (r : Fin 3) (q : Dev nD) : Rect S1024x1024 := Rect.unit (s := S1024x1024) ![128 * q.val, col r] (SC r).size (chk_inb r q)
theorem row_inb (r : Fin 3) (q : Dev nD) : ∀ a, (![128 * q.val, 0] : Fin 2 → ℕ) a + (SC r).size a ≤ (⟨2, ![1024, wid r]⟩ : Shape).size a := by
  revert r q; decide +kernel
/-- A chunk's rectangle in its stripe. -/
abbrev row (r : Fin 3) (q : Dev nD) : Rect ⟨2, ![1024, wid r]⟩ := Rect.unit (s := ⟨2, ![1024, wid r]⟩) ![128 * q.val, 0] (SC r).size (row_inb r q)

section Values
variable (Av : Dev nD → FVec F S1024x512 .f32) (Bv : Dev nD → FVec F S512x1024 .f32)

/-- A stripe of a device's right factor, and of its partial product. -/
def bst (c : Dev nD) (r : Fin 3) : FVec F ⟨2, ![512, wid r]⟩ .f32 := fun x => Bv c ((bcol r).emb x)
def dotS (c : Dev nD) : (r : Fin 3) → FVec F ⟨2, ![1024, wid r]⟩ .f32
  | 0 => k0_pay1 (Av c) (bst Bv c 0)
  | 1 => k0_pay8 (k0_pay7 (Av c)) (bst Bv c 1)
  | 2 => k0_pay14 (Av c) (bst Bv c 2)
/-- A chunk of it. -/
def pc0 (c : Dev nD) (r : Fin 3) (q : Dev nD) : FVec F (SC r) .f32 := fun x => dotS Av Bv c r ((row r q).emb x)

/-- The first exchange's pieces (by label), the second's two, the third's one. -/
def sA (c : Dev nD) (r : Fin 3) (s : Fin 8) : FVec F (SC r) .bf16 := tr (pc0 Av Bv c r (px (mk r ^^^ s) c))
def sB4 (c : Dev nD) (r : Fin 3) : FVec F (SC r) .bf16 :=
  tr (addf (pc0 Av Bv c r (px (mk (r + 1)) c)) (ex (sA Av Bv (px (mk r) c) r (mk (r + 1)))))
def sB5 (c : Dev nD) (r : Fin 3) : FVec F (SC r) .bf16 :=
  tr (addf (pc0 Av Bv c r (px (mk (r + 1) ^^^ mk (r + 2)) c)) (ex (sA Av Bv (px (mk r) c) r (mk (r + 1) ^^^ mk (r + 2)))))
def sC (c : Dev nD) (r : Fin 3) : FVec F (SC r) .bf16 :=
  tr (addf (addf (pc0 Av Bv c r (px (mk (r + 2)) c)) (ex (sA Av Bv (px (mk r) c) r (mk (r + 2))))) (ex (sB5 Av Bv (px (mk (r + 1)) c) r)))
/-- A device's own chunk, fully reduced; the result there; and as it is sent round. -/
def zz (c : Dev nD) (r : Fin 3) : FVec F (SC r) .f32 :=
  addf (addf (addf (pc0 Av Bv c r c) (ex (sA Av Bv (px (mk r) c) r 0))) (ex (sB4 Av Bv (px (mk (r + 1)) c) r))) (ex (sC Av Bv (px (mk (r + 2)) c) r))
def act (c : Dev nD) (r : Fin 3) : FVec F (SC r) .f32 := mulf (zz Av Bv c r) (logistic (zz Av Bv c r))
def gval (c : Dev nD) (r : Fin 3) : FVec F (SC r) .bf16 := tr (act Av Bv c r)

/-- What a transfer from `c` carries. -/
def val (c : Dev nD) : (i : Tx) → FVec F (SC i.2.1) .bf16
  | (false, r, k) =>
    ![sA Av Bv c r 0, sA Av Bv c r (mk (r + 1)), sA Av Bv c r (mk (r + 2)), sA Av Bv c r (mk (r + 1) ^^^ mk (r + 2)), sB4 Av Bv c r, sB5 Av Bv c r, sC Av Bv c r] k
  | (true, r, k) => gval Av Bv (px (lab (true, r, k)) c) r

/-- The partial product's chunk of label `x` after `a` accumulations. -/
def pacc (c : Dev nD) (r : Fin 3) (x : Fin 8) (a : ℕ) : FVec F (SC r) .f32 :=
  if x = 0 then
    (if 6 + r.val < a then addf (addf (pc0 Av Bv c r (px x c)) (ex (val Av Bv (peer (false, r, 0) c) (false, r, 0)))) (ex (val Av Bv (peer (false, r, 4) c) (false, r, 4)))
      else if 2 * r.val < a then addf (pc0 Av Bv c r (px x c)) (ex (val Av Bv (peer (false, r, 0) c) (false, r, 0)))
      else pc0 Av Bv c r (px x c))
  else if x = mk (r + 2) ∧ 2 * r.val + 1 < a then addf (pc0 Av Bv c r (px x c)) (ex (val Av Bv (peer (false, r, 2) c) (false, r, 2)))
  else pc0 Av Bv c r (px x c)

/-- The result's chunk of label `x`: computed here, or as received. -/
def oval (c : Dev nD) (r : Fin 3) (x : Fin 8) : FVec F (SC r) .f32 :=
  if x = 0 then act Av Bv c r else ex (gval Av Bv (px x c) r)
/-- The order in which the result's chunks are written. -/
def ox (r : Fin 3) (x : Fin 8) : ℕ :=
  if x = 0 then r.val
  else 3 + r.val + 3 * (if x = mk (r + 2) then 0 else if x = mk (r + 1) then 1 else if x = mk (r + 1) ^^^ mk (r + 2) then 2 else if x = mk r then 3
    else if x = mk r ^^^ mk (r + 2) then 4 else if x = mk r ^^^ mk (r + 1) then 5 else 6)
end Values
theorem ox_inj : ∀ r x r' x', ox r x = ox r' x' → r = r' ∧ x = x' := by decide +kernel
theorem ox_lt : ∀ r x, ox r x < 24 := by decide +kernel

/-! ## The resource algebra and the schedule -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

section Sched
variable (Av : Dev nD → FVec F S1024x512 .f32) (Bv : Dev nD → FVec F S512x1024 .f32)

/-- Some contents of what transfer `i` of device `c` fills at its receiver. -/
def land (c : Dev nD) (i : Tx) : sProp 𝕄 := iprop(∃ X : Vec F (SC i.2.1) .bf16, owns (peer i c : Thread nD τ) (dstM c i) fullShare X)
/-- What the device across mask `t` hands `c` with its signal: the landing places of `c`'s transfers across that mask. -/
def barPay (c : Dev nD) (t : Fin 3) : sProp 𝕄 := bigSep Finset.univ fun i : Tx => if mi i = t then land c i else iprop(emp)
def sendPay (c : Dev nD) (i : Tx) : sProp 𝕄 := owns (c : Thread nD τ) (srcM c i) (shr i) (val Av Bv c i)
def recvPay (c : Dev nD) (i : Tx) : sProp 𝕄 := owns (c : Thread nD τ) (dstM (peer i c) i) fullShare (val Av Bv (peer i c) i)

instance land_storable (c : Dev nD) (i : Tx) : BI.Storable (upEmb : UEmb _ 𝕄) (land (F := F) c i) := by unfold land; infer_instance

def payOf (c : Dev nD) (d : Fin 3) : Option Ck → sProp 𝕄
  | some none => barPay c d
  | some (some (false, i)) => sendPay Av Bv c i
  | some (some (true, i)) => recvPay Av Bv c i
  | none => iprop(emp)
def dutOf : Option Ck → Finset (Fin 3)
  | some none => Finset.univ
  | some (some _) => {0}
  | none => ∅
def amtOf : Option Ck → ℕ
  | some (some (_, i)) => crd i
  | _ => 1

/-- One round: a barrier cell has a duty for each mask, one unit each; every other cell a single duty of the transfer's amount. -/
def Rd : Rounds.Schedule (GSem nD τ sig) (Fin 3) 𝕄 where
  duties g r := if r = 0 ∧ g.1.2 = .tc then dutOf (undo g.2) else ∅
  unitless _ := False
  amount g _ _ := amtOf (undo g.2)
  payload g _ d := payOf Av Bv g.1.1 d (undo g.2)
  amount_pos g _ _ _ := by
    rcases h : undo g.2 with _ | _ | ⟨_, i⟩
    · exact Nat.one_pos
    · exact Nat.one_pos
    · exact crd_pos i

instance Rd_storable (g : GSem nD τ sig) (r : ℕ) (d : Fin 3) : BI.Storable (upEmb : UEmb _ 𝕄) ((Rd (F := F) Av Bv).payload g r d) := by
  show BI.Storable upEmb (payOf Av Bv g.1.1 d (undo g.2))
  rcases undo g.2 with _ | _ | ⟨_ | _, i⟩
  · unfold payOf; infer_instance
  · unfold payOf barPay
    have h : ∀ i : Tx, BI.Storable (upEmb : UEmb _ 𝕄) (if mi i = d then land (F := F) g.1.1 i else iprop(emp)) := fun i => by split <;> infer_instance
    infer_instance
  · unfold payOf sendPay; infer_instance
  · unfold payOf recvPay; infer_instance

variable (c : Dev nD) (i : Tx)

theorem duties_bar : (Rd (F := F) Av Bv).duties (barCell c) 0 = Finset.univ := by
  dsimp only [Rd]; rw [if_pos ⟨rfl, rfl⟩, undo_csem]; rfl
theorem duties_xfer (b : Bool) : (Rd (F := F) Av Bv).duties (kcell c (some (b, i))) 0 = {0} := by
  dsimp only [Rd]; rw [if_pos ⟨rfl, rfl⟩, undo_csem]; rfl
theorem duties_later (g : GSem nD τ sig) : ∀ r, 1 ≤ r → (Rd (F := F) Av Bv).duties g r = ∅ :=
  fun r hr => by dsimp only [Rd]; rw [if_neg fun h => by omega]
theorem amount_bar (d : Fin 3) : (Rd (F := F) Av Bv).amount (barCell c) 0 d = 1 := by dsimp only [Rd]; rw [undo_csem]; rfl
theorem amount_xfer (b : Bool) (d : Fin 3) : (Rd (F := F) Av Bv).amount (kcell c (some (b, i))) 0 d = crd i := by
  dsimp only [Rd]; rw [undo_csem]; rfl
theorem expect_bar : (Rd (F := F) Av Bv).expect (barCell c) 0 = 3 := by
  unfold Schedule.expect Schedule.amountOf
  rw [duties_bar, Finset.sum_congr rfl fun d _ => amount_bar Av Bv c d]; rfl
theorem expect_xfer (b : Bool) : (Rd (F := F) Av Bv).expect (kcell c (some (b, i))) 0 = crd i := by
  unfold Schedule.expect Schedule.amountOf; rw [duties_xfer, Finset.sum_singleton, amount_xfer]
theorem payload_bar (d : Fin 3) : (Rd (F := F) Av Bv).payload (barCell c) 0 d = barPay c d := by dsimp only [Rd]; rw [undo_csem]; rfl
theorem payload_send (d : Fin 3) : (Rd (F := F) Av Bv).payload (sendCell c i) 0 d = sendPay Av Bv c i := by dsimp only [Rd]; rw [undo_csem]; rfl
theorem payload_recv (d : Fin 3) : (Rd (F := F) Av Bv).payload (recvCell c i) 0 d = recvPay Av Bv c i := by dsimp only [Rd]; rw [undo_csem]; rfl
theorem rest_bar : bigSep ((Rd (F := F) Av Bv).duties (barCell c) 0 \ ∅) (fun d => (Rd (F := F) Av Bv).payload (barCell c) 0 d) = bigSep Finset.univ fun t => barPay c t := by
  rw [Finset.sdiff_empty, duties_bar]; exact bigSep_congr fun d _ => payload_bar Av Bv c d
theorem rest_send : bigSep ((Rd (F := F) Av Bv).duties (sendCell c i) 0 \ ∅) (fun d => (Rd (F := F) Av Bv).payload (sendCell c i) 0 d) = sendPay Av Bv c i := by
  rw [Finset.sdiff_empty, duties_xfer, bigSep_singleton, payload_send]
theorem rest_recv : bigSep ((Rd (F := F) Av Bv).duties (recvCell c i) 0 \ ∅) (fun d => (Rd (F := F) Av Bv).payload (recvCell c i) 0 d) = recvPay Av Bv c i := by
  rw [Finset.sdiff_empty, duties_xfer, bigSep_singleton, payload_recv]

end Sched

/-! ## Levels -/

def L (g : GSem nD τ sig) : Finset Unit := if g.1.2 = .tc then {()} else ∅
def lvOf : Option Ck → ℕ
  | some none => 1
  | some (some (true, i)) => lvl i
  | _ => 0
def lv (g : GSem nD τ sig) (_ : Unit) : ℕ := lvOf (undo g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Ck) (u : Unit) : lv (kcell c k) u = lvOf (some k) := by unfold lv; rw [undo_csem]

/-- What a device still owes with `b` signals and `n` transfers issued. -/
def Ow (c : Dev nD) (b n : ℕ) : CellTallies nD τ sig Unit :=
  (∑ t : Fin 3, if b ≤ t.val then tallyAt (barCell (px (mk t) c)) () 1 else 0) + ∑ i : Tx, if n ≤ ix i then tallyAt (recvCell (peer i c) i) () (crd i) else 0

end Cert.KernelIdeal.Run
end
-- ==== Proof.State.lean ====
/-
# What a device holds while its program runs

The assertion `St` counts how far the program has come: the signals made, the stripes computed, the pieces staged, the
transfers issued, those of them waited for, the arrivals waited for, the accumulations, the chunks of the result
written, the own chunks stored. Each of its parts is a family over the transfers that changes at one transfer at a time.
-/
module

public import proofs.«01_k».proof.Proof.Common
public import Idealize.ShloMosaic.Lib.MemrefSat

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families that change at one member -/

theorem fam {ι : Type} [Fintype ι] [DecidableEq ι] (A B : ι → sProp 𝕄) (i : ι) (h : ∀ j, j ≠ i → A j = B j) :
    bigSep Finset.univ A ⊢ iprop(A i ∗ (B i -∗ bigSep Finset.univ B)) := by
  rw [bigSep_univ_split i (Φ := A), bigSep_univ_split i (Φ := B),
    bigSep_congr (s := Finset.univ.erase i) (Φ := A) (Ψ := B) fun j hj => h j (Finset.ne_of_mem_erase hj)]
  refine (show iprop(A i ∗ bigSep (Finset.univ.erase i) B) ⊢ iprop(A i ∗ (B i -∗ (B i ∗ bigSep (Finset.univ.erase i) B))) from ?_)
  iintro ⟨H1, H2⟩
  isplitl [H1]; · iexact H1
  iintro H3
  isplitl [H3] <;> iassumption

theorem sum_step {ι M : Type} [Fintype ι] [DecidableEq ι] [AddCommMonoid M] (f : ι → M) (o : ι → ℕ) (inj : ∀ i j, o i = o j → i = j) (i : ι) :
    (∑ j, if o i ≤ o j then f j else 0) = (∑ j, if o i + 1 ≤ o j then f j else 0) + f i := by
  rw [← Finset.add_sum_erase _ _ (Finset.mem_univ i), ← Finset.add_sum_erase _ (fun j => if o i + 1 ≤ o j then f j else 0) (Finset.mem_univ i),
    if_pos (Nat.le_refl _), if_neg (Nat.not_succ_le_self _), zero_add, add_comm]
  congr 1
  refine Finset.sum_congr rfl fun j hj => ?_
  have : o i ≠ o j := fun h => Finset.ne_of_mem_erase hj (inj i j h).symm
  by_cases h : o i ≤ o j
  · rw [if_pos h, if_pos (by omega)]
  · rw [if_neg h, if_neg (show ¬ _ + 1 ≤ _ by omega)]

/-! ## What is owed -/

theorem Ow_sig (c : Dev nD) (t : Fin 3) (n : ℕ) : Ow c t.val n = Ow c (t.val + 1) n + tallyAt (barCell (px (mk t) c)) () 1 := by
  unfold Ow
  rw [sum_step (fun t : Fin 3 => (tallyAt (barCell (px (mk t) c)) () 1 : CellTallies nD τ sig Unit)) (fun t => t.val) (fun _ _ => Fin.ext) t,
    add_assoc, add_assoc, add_comm (tallyAt _ _ _)]
theorem Ow_send (c : Dev nD) (i : Tx) (b : ℕ) : Ow c b (ix i) = Ow c b (ix i + 1) + tallyAt (recvCell (peer i c) i) () (crd i) := by
  unfold Ow
  rw [sum_step (fun i : Tx => (tallyAt (recvCell (peer i c) i) () (crd i) : CellTallies nD τ sig Unit)) ix ix_inj i, add_assoc]
theorem Ow_done (c : Dev nD) : Ow c 4 42 = 0 := by
  unfold Ow
  exact (congrArg₂ (· + ·) (Finset.sum_eq_zero fun (t : Fin 3) _ => if_neg (by have := t.isLt; omega))
    (Finset.sum_eq_zero fun i _ => if_neg (by have := ix_lt i; omega))).trans (zero_add 0)
theorem Ow_bar (c : Dev nD) (n : ℕ) : Ow c 3 n = Ow c 4 n := by
  unfold Ow
  exact congrArg (· + _) ((Finset.sum_eq_zero fun (t : Fin 3) _ => if_neg (by have := t.isLt; omega)).trans
    (Finset.sum_eq_zero fun (t : Fin 3) _ => if_neg (by have := t.isLt; omega)).symm)

theorem tally_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem sum_pos {ι : Type} [Fintype ι] (f : ι → CellTallies nD τ sig Unit) (p : ι → Prop) [DecidablePred p] {g : GSem nD τ sig} {u : Unit}
    (h : 0 < (∑ j, if p j then f j else 0) g u) : ∃ j, p j ∧ 0 < f j g u := by
  by_contra hn
  have h0 : (∑ j, if p j then f j else 0) g u = 0 := by
    rw [Finset.sum_apply, Finsupp.finset_sum_apply]
    refine Finset.sum_eq_zero fun j _ => ?_
    by_cases hp : p j
    · rw [if_pos hp]; exact Nat.eq_zero_of_not_pos fun h' => hn ⟨j, hp, h'⟩
    · rw [if_neg hp]; rfl
  omega

theorem Ow_pos {c : Dev nD} {b n : ℕ} {g : GSem nD τ sig} {u : Unit} (h : 0 < Ow c b n g u) :
    (∃ t : Fin 3, b ≤ t.val ∧ g = barCell (px (mk t) c)) ∨ ∃ i : Tx, n ≤ ix i ∧ g = recvCell (peer i c) i := by
  unfold Ow at h
  rw [Pi.add_apply, Finsupp.add_apply] at h
  rcases Nat.eq_zero_or_pos ((∑ t : Fin 3, if b ≤ t.val then (tallyAt (barCell (px (mk t) c)) () 1 : CellTallies nD τ sig Unit) else 0) g u) with h0 | h0
  · rw [h0, Nat.zero_add] at h
    obtain ⟨i, hi, hp⟩ := sum_pos _ _ h
    exact Or.inr ⟨i, hi, tally_pos hp⟩
  · obtain ⟨t, ht, hp⟩ := sum_pos _ _ h0
    exact Or.inl ⟨t, ht, tally_pos hp⟩

/-- A cell may be waited for when everything still owed lies above it. -/
theorem mayWait (c : Dev nD) (sm : SemLoc sig) (b n l : ℕ) (hl : lvOf (undo sm) ≤ l) (hb : b ≤ 2 → l < 1) (hn : ∀ i : Tx, n ≤ ix i → l < lvl i) :
    (levAts L lv : sProp 𝕄) ⊢ MayWait (c : Thread nD τ) sm () (Ow c b n) :=
  MayOwe.of_cut (L := L) (lev := lv) l (fun p hp => by rw [Finset.mem_singleton.mp hp, L_tc]; exact Finset.mem_singleton_self _)
    (fun g u hg => by rcases Ow_pos hg with ⟨t, _, rfl⟩ | ⟨i, _, rfl⟩ <;> exact Finset.mem_singleton_self _)
    (fun p hp => by rw [Finset.mem_singleton.mp hp]; exact hl)
    (fun g u hg => by
      rcases Ow_pos hg with ⟨t, ht, rfl⟩ | ⟨i, hi, rfl⟩
      · rw [lv_cell]; exact hb (by have := t.isLt; omega)
      · rw [lv_cell]; exact hn i hi)

/-! ## The parts of the state -/

section State
variable (Av : Dev nD → FVec F S1024x512 .f32) (Bv : Dev nD → FVec F S512x1024 .f32) (c : Dev nD)

/-- A slot before anything is staged in it; the gather's rows are held elsewhere until then. -/
def raw (i : Tx) : sProp 𝕄 := if i.1 then iprop(emp) else iprop(∃ X : Vec F (SC i.2.1) .bf16, owns (c : Thread nD τ) (srcM c i) fullShare X)
def toks (i : Tx) : sProp 𝕄 :=
  iprop(atPos ER (sendCell c i) 0 ∅ 0 ∗ dutyTok ER (sendCell c i) 0 0 ∗ dutyTok ER (recvCell (peer i c) i) 0 0)
/-- A transfer's sending side, with `q` staged, `n` issued and `v` waited for. -/
def Snd (q n v : ℕ) (i : Tx) : sProp 𝕄 :=
  if q ≤ ix i then iprop(raw c i ∗ toks c i)
  else if n ≤ ix i then iprop(sendPay Av Bv c i ∗ toks c i)
  else if v ≤ ix i then iprop(atPos ER (sendCell c i) 0 ∅ 0 ∗ cred (tallyAt (sendCell c i) () (crd i)))
  else iprop(sendPay Av Bv c i ∗ semVal (sendCell c i) 0)
/-- Its landing place, held from the barrier's wait to its issue. -/
def Lnd (b n : ℕ) (i : Tx) : sProp 𝕄 := if b = 4 ∧ n ≤ ix i then land c i else iprop(emp)
/-- Its receiving side, with `w` arrivals waited for. -/
def Rcv (w : ℕ) (i : Tx) : sProp 𝕄 :=
  if w ≤ wx i then iprop(atPos ER (recvCell c i) 0 ∅ 0 ∗ cred (tallyAt (recvCell c i) () (crd i)))
  else iprop(semVal (recvCell c i) 0 ∗ owns (c : Thread nD τ) (dstM (peer i c) i) (kp i) (val Av Bv (peer i c) i))
/-- The barrier with `b` signals made; 4 once it has been waited for. -/
def BarT (b : ℕ) (t : Fin 3) : sProp 𝕄 :=
  if b ≤ t.val then iprop(dutyTok ER (barCell (px (mk t) c)) 0 t ∗ barPay (px (mk t) c) t) else iprop(emp)
def BarW (b : ℕ) : sProp 𝕄 :=
  if b = 4 then semVal (barCell c) 0 else iprop(atPos ER (barCell c) 0 ∅ 0 ∗ cred (tallyAt (barCell c) () 3))
/-- The own rows of the gather buffer, before they are stored. -/
def Own (g : ℕ) (r : Fin 3) : sProp 𝕄 :=
  if g ≤ r.val then iprop(∃ X : Vec F (SC r) .bf16, owns (c : Thread nD τ) (gch r c) fullShare X) else iprop(emp)

abbrev pM : Memref sig .tc .vmem S1024x1024 .f32 := Memref.whole cc0_scratch0
abbrev oM : Memref sig .tc .vmem S1024x1024 .f32 := Memref.whole cc0_stg2_0
abbrev aM : Memref sig .tc .vmem S1024x512 .f32 := Memref.whole cc0_stg0_0
abbrev bM : Memref sig .tc .vmem S512x1024 .f32 := Memref.whole cc0_stg1_0

/-- What is known of the partial product's buffer, and of the result's. -/
def PartOK (d a : ℕ) (f : FVec F S1024x1024 .f32) : Prop :=
  ∀ r x, r.val < d → (fun y => f ((chk r (px x c)).emb y)) = pacc Av Bv c r x a
def OutOK (o : ℕ) (f : FVec F S1024x1024 .f32) : Prop :=
  ∀ r x, ox r x < o → (fun y => f ((chk r (px x c)).emb y)) = oval Av Bv c r x

def PartS (d a : ℕ) : sProp 𝕄 := iprop(∃ f : FVec F S1024x1024 .f32, ⌜PartOK Av Bv c d a f⌝ ∗ (((c : Thread nD τ).loc cc0_scratch0) ↦{fullShare} f))
def OutS (o : ℕ) : sProp 𝕄 := iprop(∃ f : FVec F S1024x1024 .f32, ⌜OutOK Av Bv c o f⌝ ∗ (((c : Thread nD τ).loc cc0_stg2_0) ↦{fullShare} f))
def InS : sProp 𝕄 := iprop((((c : Thread nD τ).loc cc0_stg0_0) ↦{fullShare} (Av c)) ∗ (((c : Thread nD τ).loc cc0_stg1_0) ↦{fullShare} (Bv c)))
def SndS (q n v : ℕ) : sProp 𝕄 := bigSep Finset.univ (Snd Av Bv c q n v)
def LndS (b n : ℕ) : sProp 𝕄 := bigSep Finset.univ (Lnd (F := F) c b n)
def RcvS (w : ℕ) : sProp 𝕄 := bigSep Finset.univ (Rcv Av Bv c w)
def OwnS (g : ℕ) : sProp 𝕄 := bigSep Finset.univ (Own (F := F) c g)

/-- The cells' invariants, under the names the launch allocated them at, and that all have reached their round. -/
def records (K : Dev nD × Ck → ℕ) : sProp 𝕄 :=
  iprop((bigSep Finset.univ fun ck : Dev nD × Ck => cellInv ER (Rd (F := F) Av Bv) (K ck) (kcell ck.1 ck.2))
    ∗ bigSep Finset.univ fun ck : Dev nD × Ck => reached ER (kcell ck.1 ck.2) 0)
instance records_persistent (K : Dev nD × Ck → ℕ) : BI.Persistent (records Av Bv K) := by unfold records; infer_instance
theorem rec_inv (K : Dev nD × Ck → ℕ) (d : Dev nD) (k : Ck) : records Av Bv K ⊢ cellInv ER (Rd (F := F) Av Bv) (K (d, k)) (kcell d k) := by
  unfold records
  exact sep_elim_left.trans (bigSep_elim (Φ := fun ck : Dev nD × Ck => cellInv ER (Rd (F := F) Av Bv) (K ck) (kcell ck.1 ck.2)) (Finset.mem_univ (d, k)))
theorem rec_reached (K : Dev nD × Ck → ℕ) (d : Dev nD) (k : Ck) : records Av Bv K ⊢ (reached ER (kcell d k) 0 : sProp 𝕄) := by
  unfold records
  exact sep_elim_right.trans (bigSep_elim (Φ := fun ck : Dev nD × Ck => (reached ER (kcell ck.1 ck.2) 0 : sProp 𝕄)) (Finset.mem_univ (d, k)))

/-- What the protocol's steps use beside the families. -/
def Gh (b n : ℕ) : sProp 𝕄 := iprop(∃ K W, records Av Bv K ∗ levAts L lv ∗ owes (c : Thread nD τ) (Ow c b n) W)

/-- The device's state. -/
def St (b d q n v w a o g : ℕ) : sProp 𝕄 :=
  iprop(Gh Av Bv c b n ∗ (bigSep Finset.univ (BarT (F := F) c b) ∗ BarW (F := F) c b) ∗ LndS (F := F) c b n ∗ SndS Av Bv c q n v ∗ RcvS Av Bv c w
    ∗ OwnS (F := F) c g ∗ InS Av Bv c ∗ PartS Av Bv c d a ∗ OutS Av Bv c o)

/-! ## The families' steps -/

theorem snd_stage (i : Tx) (n v : ℕ) (hn : n ≤ ix i) :
    SndS Av Bv c (ix i) n v ⊢ iprop(raw c i ∗ (sendPay Av Bv c i -∗ SndS Av Bv c (ix i + 1) n v)) := by
  unfold SndS
  refine (fam _ (Snd Av Bv c (ix i + 1) n v) i fun j hj => ?_).trans ?_
  · have : ix i ≠ ix j := fun h => hj (ix_inj i j h).symm
    unfold Snd
    by_cases h : ix i ≤ ix j
    · rw [if_pos h, if_pos (by omega)]
    · rw [if_neg h, if_neg (show ¬ _ + 1 ≤ _ by omega)]
  · rw [show Snd Av Bv c (ix i) n v i = iprop(raw c i ∗ toks c i) from if_pos (Nat.le_refl _),
      show Snd Av Bv c (ix i + 1) n v i = iprop(sendPay Av Bv c i ∗ toks c i) from (if_neg (Nat.not_succ_le_self _)).trans (if_pos hn)]
    iintro ⟨⟨H1, H2⟩, H⟩
    isplitl [H1]; · iexact H1
    iintro H3; iapply H
    isplitl [H3] <;> iassumption

theorem snd_raw (i : Tx) (q n v : ℕ) (hq : q ≤ ix i) :
    SndS Av Bv c q n v ⊢ iprop(raw c i ∗ (raw c i -∗ SndS Av Bv c q n v)) := by
  unfold SndS
  refine (fam _ (Snd Av Bv c q n v) i fun j hj => rfl).trans ?_
  rw [show Snd Av Bv c q n v i = iprop(raw c i ∗ toks c i) from if_pos hq]
  iintro ⟨⟨H1, H2⟩, H⟩
  isplitl [H1]; · iexact H1
  iintro H3; iapply H
  isplitl [H3] <;> iassumption

theorem snd_send (i : Tx) (q v : ℕ) (hq : ix i < q) (hv : v ≤ ix i) :
    SndS Av Bv c q (ix i) v ⊢ iprop((sendPay Av Bv c i ∗ toks c i)
      ∗ (iprop(atPos ER (sendCell c i) 0 ∅ 0 ∗ cred (tallyAt (sendCell c i) () (crd i))) -∗ SndS Av Bv c q (ix i + 1) v)) := by
  unfold SndS
  refine (fam _ (Snd Av Bv c q (ix i + 1) v) i fun j hj => ?_).trans ?_
  · have : ix i ≠ ix j := fun h => hj (ix_inj i j h).symm
    unfold Snd
    by_cases h0 : q ≤ ix j
    · rw [if_pos h0, if_pos h0]
    rw [if_neg h0, if_neg h0]
    by_cases h : ix i ≤ ix j
    · rw [if_pos h, if_pos (by omega)]
    · rw [if_neg h, if_neg (show ¬ _ + 1 ≤ _ by omega)]
  · rw [show Snd Av Bv c q (ix i) v i = iprop(sendPay Av Bv c i ∗ toks c i) from (if_neg (by omega)).trans (if_pos (Nat.le_refl _)),
      show Snd Av Bv c q (ix i + 1) v i = iprop(atPos ER (sendCell c i) 0 ∅ 0 ∗ cred (tallyAt (sendCell c i) () (crd i))) from
        (if_neg (by omega)).trans ((if_neg (Nat.not_succ_le_self _)).trans (if_pos hv))]

theorem snd_wait (i : Tx) (q n : ℕ) (hq : ix i < q) (hn : ix i < n) :
    SndS Av Bv c q n (ix i) ⊢ iprop(iprop(atPos ER (sendCell c i) 0 ∅ 0 ∗ cred (tallyAt (sendCell c i) () (crd i)))
      ∗ (iprop(sendPay Av Bv c i ∗ semVal (sendCell c i) 0) -∗ SndS Av Bv c q n (ix i + 1))) := by
  unfold SndS
  refine (fam _ (Snd Av Bv c q n (ix i + 1)) i fun j hj => ?_).trans ?_
  · have : ix i ≠ ix j := fun h => hj (ix_inj i j h).symm
    unfold Snd
    by_cases h0 : q ≤ ix j
    · rw [if_pos h0, if_pos h0]
    rw [if_neg h0, if_neg h0]
    by_cases h1 : n ≤ ix j
    · rw [if_pos h1, if_pos h1]
    rw [if_neg h1, if_neg h1]
    by_cases h : ix i ≤ ix j
    · rw [if_pos h, if_pos (by omega)]
    · rw [if_neg h, if_neg (show ¬ _ + 1 ≤ _ by omega)]
  · rw [show Snd Av Bv c q n (ix i) i = iprop(atPos ER (sendCell c i) 0 ∅ 0 ∗ cred (tallyAt (sendCell c i) () (crd i))) from
        (if_neg (by omega)).trans ((if_neg (by omega)).trans (if_pos (Nat.le_refl _))),
      show Snd Av Bv c q n (ix i + 1) i = iprop(sendPay Av Bv c i ∗ semVal (sendCell c i) 0) from
        (if_neg (by omega)).trans ((if_neg (by omega)).trans (if_neg (Nat.not_succ_le_self _)))]

theorem lnd_send (i : Tx) : LndS (F := F) c 4 (ix i) ⊢ iprop(land c i ∗ LndS (F := F) c 4 (ix i + 1)) := by
  unfold LndS
  refine (fam _ (Lnd (F := F) c 4 (ix i + 1)) i fun j hj => ?_).trans ?_
  · have : ix i ≠ ix j := fun h => hj (ix_inj i j h).symm
    unfold Lnd
    by_cases h : ix i ≤ ix j
    · rw [if_pos ⟨rfl, h⟩, if_pos ⟨rfl, by omega⟩]
    · rw [if_neg fun h' => h h'.2, if_neg fun h' => by omega]
  · rw [show Lnd (F := F) c 4 (ix i) i = land c i from if_pos ⟨rfl, Nat.le_refl _⟩,
      show Lnd (F := F) c 4 (ix i + 1) i = iprop(emp) from if_neg fun h => Nat.not_succ_le_self _ h.2]
    iintro ⟨H1, H⟩
    isplitl [H1]; · iexact H1
    iapply H; iempintro

theorem rcv_wait (i : Tx) :
    RcvS Av Bv c (wx i) ⊢ iprop(iprop(atPos ER (recvCell c i) 0 ∅ 0 ∗ cred (tallyAt (recvCell c i) () (crd i)))
      ∗ (iprop(semVal (recvCell c i) 0 ∗ owns (c : Thread nD τ) (dstM (peer i c) i) (kp i) (val Av Bv (peer i c) i)) -∗ RcvS Av Bv c (wx i + 1))) := by
  unfold RcvS
  refine (fam _ (Rcv Av Bv c (wx i + 1)) i fun j hj => ?_).trans ?_
  · have : wx i ≠ wx j := fun h => hj (wx_inj i j h).symm
    unfold Rcv
    by_cases h : wx i ≤ wx j
    · rw [if_pos h, if_pos (by omega)]
    · rw [if_neg h, if_neg (show ¬ _ + 1 ≤ _ by omega)]
  · rw [show Rcv Av Bv c (wx i) i = iprop(atPos ER (recvCell c i) 0 ∅ 0 ∗ cred (tallyAt (recvCell c i) () (crd i))) from if_pos (Nat.le_refl _),
      show Rcv Av Bv c (wx i + 1) i = iprop(semVal (recvCell c i) 0 ∗ owns (c : Thread nD τ) (dstM (peer i c) i) (kp i) (val Av Bv (peer i c) i)) from
        if_neg (Nat.not_succ_le_self _)]

theorem rcv_held (i : Tx) (w : ℕ) (h : wx i < w) :
    RcvS Av Bv c w ⊢ iprop(owns (c : Thread nD τ) (dstM (peer i c) i) (kp i) (val Av Bv (peer i c) i)
      ∗ (owns (c : Thread nD τ) (dstM (peer i c) i) (kp i) (val Av Bv (peer i c) i) -∗ RcvS Av Bv c w)) := by
  unfold RcvS
  refine (fam _ (Rcv Av Bv c w) i fun j hj => rfl).trans ?_
  rw [show Rcv Av Bv c w i = iprop(semVal (recvCell c i) 0 ∗ owns (c : Thread nD τ) (dstM (peer i c) i) (kp i) (val Av Bv (peer i c) i)) from if_neg (by omega)]
  iintro ⟨⟨H1, H2⟩, H⟩
  isplitl [H2]; · iexact H2
  iintro H3; iapply H
  isplitl [H1] <;> iassumption

theorem own_store (r : Fin 3) :
    OwnS (F := F) c r.val ⊢ iprop((∃ X : Vec F (SC r) .bf16, owns (c : Thread nD τ) (gch r c) fullShare X) ∗ OwnS (F := F) c (r.val + 1)) := by
  unfold OwnS
  refine (fam _ (Own (F := F) c (r.val + 1)) r fun j hj => ?_).trans ?_
  · have : r.val ≠ j.val := fun h => hj (Fin.ext h).symm
    unfold Own
    by_cases h : r.val ≤ j.val
    · rw [if_pos h, if_pos (by omega)]
    · rw [if_neg h, if_neg (show ¬ _ + 1 ≤ _ by omega)]
  · rw [show Own (F := F) c r.val r = iprop(∃ X : Vec F (SC r) .bf16, owns (c : Thread nD τ) (gch r c) fullShare X) from if_pos (Nat.le_refl _),
      show Own (F := F) c (r.val + 1) r = iprop(emp) from if_neg (Nat.not_succ_le_self _)]
    iintro ⟨H1, H⟩
    isplitl [H1]; · iexact H1
    iapply H; iempintro

theorem own_raw (r : Fin 3) (g : ℕ) (hg : g ≤ r.val) :
    OwnS (F := F) c g ⊢ iprop((∃ X : Vec F (SC r) .bf16, owns (c : Thread nD τ) (gch r c) fullShare X)
      ∗ ((∃ X : Vec F (SC r) .bf16, owns (c : Thread nD τ) (gch r c) fullShare X) -∗ OwnS (F := F) c g)) := by
  unfold OwnS
  refine (fam _ (Own (F := F) c g) r fun j hj => rfl).trans ?_
  rw [show Own (F := F) c g r = iprop(∃ X : Vec F (SC r) .bf16, owns (c : Thread nD τ) (gch r c) fullShare X) from if_pos hg]

theorem bar_sig (t : Fin 3) :
    bigSep Finset.univ (BarT (F := F) c t.val) ⊢ iprop((dutyTok ER (barCell (px (mk t) c)) 0 t ∗ barPay (px (mk t) c) t) ∗ bigSep Finset.univ (BarT (F := F) c (t.val + 1))) := by
  refine (fam _ (BarT (F := F) c (t.val + 1)) t fun j hj => ?_).trans ?_
  · have : t.val ≠ j.val := fun h => hj (Fin.ext h).symm
    unfold BarT
    by_cases h : t.val ≤ j.val
    · rw [if_pos h, if_pos (by omega)]
    · rw [if_neg h, if_neg (show ¬ _ + 1 ≤ _ by omega)]
  · rw [show BarT (F := F) c t.val t = iprop(dutyTok ER (barCell (px (mk t) c)) 0 t ∗ barPay (px (mk t) c) t) from if_pos (Nat.le_refl _),
      show BarT (F := F) c (t.val + 1) t = iprop(emp) from if_neg (Nat.not_succ_le_self _)]
    iintro ⟨H1, H⟩
    isplitl [H1]; · iexact H1
    iapply H; iempintro

/-- The barrier's payloads are the landing places of all the device's transfers. -/
theorem bar_all : (bigSep Finset.univ fun t : Fin 3 => barPay (F := F) c t) = LndS (F := F) c 4 0 := by
  unfold barPay LndS
  rw [bigSep_univ_comm]
  refine bigSep_congr fun i _ => ?_
  rw [show Lnd (F := F) c 4 0 i = land c i from if_pos ⟨rfl, Nat.zero_le _⟩, bigSep_univ_split (mi i), if_pos rfl,
    bigSep_congr (Ψ := fun _ => iprop(emp)) fun t ht => if_neg (Ne.symm (Finset.ne_of_mem_erase ht))]
  refine (show iprop(land c i ∗ bigSep (Finset.univ.erase (mi i)) fun _ => iprop(emp)) = land (F := F) c i from ?_)
  have h : ∀ s : Finset (Fin 3), (bigSep s fun _ => (iprop(emp) : sProp 𝕄)) = iprop(emp) := fun s => by
    induction s using Finset.induction_on with
    | empty => rfl
    | insert a s ha ih => rw [bigSep_insert ha, ih]; exact equiv_iff.mp sep_emp
  rw [h]; exact equiv_iff.mp sep_emp

end State

end Cert.KernelIdeal.Run
end
-- ==== Proof.Steps.lean ====
/-
# The steps of the program over the state

One lemma for each kind of operation: from the state before it, and the rest of the program run from the state after it,
the operation followed by the rest.
-/
module

public import proofs.«01_k».proof.Proof.State
public import Idealize.ShloMosaic.Lib.Pipeline.Value

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev TP (F : FTy → Type) (α : Type) : Type 1 := Prog (TpuEff nD τ sig (Elt F) Λ₀ .tc) α

/-- A program of device `c`, run to `Q`. -/
abbrev WP (c : Dev nD) {α : Type} (p : TP F α) (Q : α → sProp 𝕄) : sProp 𝕄 := wp frame (wpE (defs₀ (F := F)) 𝒱₀ (c : Thread nD τ) none) Set.univ p Q

theorem step1 {P P' S S' W W' : sProp 𝕄} (h1 : S ⊢ iprop(P ∗ (P' -∗ S'))) (h2 : P ⊢ iprop((P' -∗ W') -∗ W)) (h : S' ⊢ W') : S ⊢ W := by
  refine h1.trans ?_
  iintro ⟨HP, HS⟩
  iapply h2 $$ HP
  iintro HP'
  iapply h
  iapply HS
  iexact HP'

/-! ## Slots of a buffer -/

section Slots
variable {α : Type} {c : Dev nD}

theorem up_read {n j : ℕ} (r : Fin 3) (m : Memref sig .tc .vmem (SB n r) .bf16) (h : j < n) (f : m.view.ty.Contents (Elt F)) :
    up r ((slotM r m j h).view.read (Elt F) f) = (m.access (slotR r j h)).read (Elt F) f :=
  shapeCast_shapeCast ((m.access (slotR r j h)).read (Elt F) f) (dnc r) (upc r)

theorem slot_written {n j : ℕ} (r : Fin 3) (m : Memref sig .tc .vmem (SB n r) .bf16) (h : j < n) (f : m.view.ty.Contents (Elt F)) (Y : Vec F (SC r) .bf16) :
    (slotM r m j h).view.read (Elt F) ((m.access (slotR r j h)).write (Elt F) f (up r Y) Finset.univ) = Y := by
  refine (show _ = shapeCast (SC r) ((m.access (slotR r j h)).read (Elt F) ((m.access (slotR r j h)).write (Elt F) f (up r Y) Finset.univ)) (dnc r) from rfl).trans ?_
  rw [View.read_write_univ]
  exact shapeCast_shapeCast Y (upc r) (dnc r)

theorem slot_set {n j : ℕ} (r : Fin 3) (m : Memref sig .tc .vmem (SB n r) .bf16) (h : j < n) :
    (slotM r m j h).view.set = (m.access (slotR r j h)).set := View.set_reshape _ _

theorem slot_load {n j : ℕ} (r : Fin 3) (m : Memref sig .tc .vmem (SB n r) .bf16) (h : j < n) (q : PosShare TreeShare) (X : Vec F (SC r) .bf16)
    {hl : m.view.LoadsAt (slotR r j h).toLoadRect} {k : Vec F (SU r) .bf16 → TP F α} {Q : α → sProp 𝕄} :
    owns (c : Thread nD τ) (slotM r m j h) q X
      ⊢ iprop((owns (c : Thread nD τ) (slotM r m j h) q X -∗ WP c (k (up r X)) Q) -∗ WP c (.op (.load m (slotR r j h).toLoadRect hl) k) Q) := by
  unfold owns
  iintro ⟨%f, %hf, H⟩ Hk
  iapply (wp_load_rect (r := slotR r j h) 𝒱₀ (c : Thread nD τ) none Set.univ (m := m) (subset_of_eq (slot_set r m h).symm)) $$ H
  iintro H
  rw [← up_read r m h f, hf]
  iapply Hk
  iexists f
  isplitr; · ipureintro; exact hf
  iexact H

theorem slot_store {n j : ℕ} (r : Fin 3) (m : Memref sig .tc .vmem (SB n r) .bf16) (h : j < n) (X Y : Vec F (SC r) .bf16)
    {hx : (m.access (slotR r j h)).Stores Finset.univ} {hm : (Finset.univ : Finset (slotR r j h).shape.Idx) = Finset.univ ∨ ∀ a, (slotR r j h).stride a = 1} {k : PUnit → TP F α} {Q : α → sProp 𝕄} :
    owns (c : Thread nD τ) (slotM r m j h) fullShare X
      ⊢ iprop((owns (c : Thread nD τ) (slotM r m j h) fullShare Y -∗ WP c (k ⟨⟩) Q) -∗ WP c (.op (.store m (slotR r j h) (up r Y) Finset.univ hx hm) k) Q) := by
  unfold owns
  iintro ⟨%f, %hf, H⟩ Hk
  iapply (wp_store 𝒱₀ (c : Thread nD τ) none Set.univ (m := m) (r := slotR r j h) (Mk := Finset.univ) (subset_of_eq (slot_set r m h).symm)) $$ H
  iintro H
  iapply Hk
  iexists ((m.access (slotR r j h)).write (Elt F) f (up r Y) Finset.univ)
  isplitr
  · ipureintro; exact slot_written r m h f Y
  iexact H

end Slots

/-! ## Chunks of the full squares -/

theorem chk_emb0 (r : Fin 3) (q : Dev nD) (y : (SC r).Idx) : ((chk r q).emb y 0).val = 128 * q.val + (y 0).val := by
  show _ + 1 * _ = _; rw [Nat.one_mul]; rfl
theorem chk_emb1 (r : Fin 3) (q : Dev nD) (y : (SC r).Idx) : ((chk r q).emb y 1).val = col r + (y 1).val := by
  show _ + 1 * _ = _; rw [Nat.one_mul]; rfl
theorem y0_lt (r : Fin 3) (y : (SC r).Idx) : (y 0).val < 128 := (y 0).isLt
theorem y1_lt (r : Fin 3) (y : (SC r).Idx) : (y 1).val < wid r := (y 1).isLt
theorem col_sep : ∀ r r' : Fin 3, r ≠ r' → col r + wid r ≤ col r' ∨ col r' + wid r' ≤ col r := by decide

theorem chk_out {r r' : Fin 3} {q q' : Dev nD} (h : ¬(r = r' ∧ q = q')) (y : (SC r').Idx) : (chk r' q').emb y ∉ (chk r q).set := by
  intro hm
  rw [Rect.mem_set_unit] at hm
  have h0 := hm 0; have h1 := hm 1
  have e0 := chk_emb0 r' q' y; have e1 := chk_emb1 r' q' y
  have l0 := y0_lt r' y; have l1 := y1_lt r' y
  have h0' : 128 * q.val ≤ ((chk r' q').emb y 0).val ∧ ((chk r' q').emb y 0).val < 128 * q.val + 128 := h0
  have h1' : col r ≤ ((chk r' q').emb y 1).val ∧ ((chk r' q').emb y 1).val < col r + wid r := h1
  by_cases hr : r = r'
  · have : q.val ≠ q'.val := fun hq => h ⟨hr, Fin.ext hq⟩
    omega
  · have := col_sep r r' hr
    omega

theorem pcol_out {r r' : Fin 3} {q' : Dev nD} (h : r ≠ r') (y : (SC r').Idx) : (chk r' q').emb y ∉ (pcol r).set := by
  intro hm
  rw [Rect.mem_set_unit] at hm
  have h1 := hm 1
  have e1 := chk_emb1 r' q' y
  have l1 := y1_lt r' y
  have h1' : col r ≤ ((chk r' q').emb y 1).val ∧ ((chk r' q').emb y 1).val < col r + wid r := h1
  have := col_sep r r' h
  omega

theorem chk_in (r : Fin 3) (q : Dev nD) (y : (SC r).Idx) : (pcol r).emb ((row r q).emb y) = (chk r q).emb y := by
  funext a
  refine Fin.ext ?_
  fin_cases a
  · show 0 + 1 * (128 * q.val + 1 * (y 0).val) = 128 * q.val + 1 * (y 0).val; omega
  · show col r + 1 * (0 + 1 * (y 1).val) = col r + 1 * (y 1).val; omega

theorem w_in (b : Ref sig .tc) (r : Rect b.ty.shape) (f : b.ty.Contents (Elt F)) (w : r.shape.Idx → Elt F b.ty.elt) (y : r.shape.Idx) :
    ((Memref.whole b).access r).write (Elt F) f w Finset.univ (r.emb y) = w y :=
  (View.write_emb_of_mem (v := (Memref.whole b).access r) f w (Finset.mem_univ y)).trans (cast_eq _ _)
theorem w_out (b : Ref sig .tc) (r : Rect b.ty.shape) (f : b.ty.Contents (Elt F)) (w : r.shape.Idx → Elt F b.ty.elt) (i : b.ty.shape.Idx) (h : i ∉ r.set) :
    ((Memref.whole b).access r).write (Elt F) f w Finset.univ i = f i := by
  refine View.write_of_not_mem (v := (Memref.whole b).access r) f w Finset.univ ?_
  rw [View.setOn_univ, View.set_slice]
  intro hm
  obtain ⟨x, hx, rfl⟩ := Finset.mem_map.mp hm
  exact h hx

section St
variable (Av : Dev nD → FVec F S1024x512 .f32) (Bv : Dev nD → FVec F S512x1024 .f32) (c : Dev nD)
variable {α : Type} {b d q n v w a o g : ℕ}

/-! ## The state's parts, one at a time -/

theorem st_in : St Av Bv c b d q n v w a o g ⊢ iprop(InS Av Bv c ∗ (InS Av Bv c -∗ St Av Bv c b d q n v w a o g)) := by
  unfold St
  iintro ⟨HG, HB, HL, HS, HR, HO, HI, HP, HT⟩
  isplitl [HI]; · iexact HI
  iintro HI
  isplitl [HG]; · iexact HG
  isplitl [HB]; · iexact HB
  isplitl [HL]; · iexact HL
  isplitl [HS]; · iexact HS
  isplitl [HR]; · iexact HR
  isplitl [HO]; · iexact HO
  isplitl [HI]; · iexact HI
  isplitl [HP] <;> iassumption
theorem st_part (d' a' : ℕ) : St Av Bv c b d q n v w a o g ⊢ iprop(PartS Av Bv c d a ∗ (PartS Av Bv c d' a' -∗ St Av Bv c b d' q n v w a' o g)) := by
  unfold St
  iintro ⟨HG, HB, HL, HS, HR, HO, HI, HP, HT⟩
  isplitl [HP]; · iexact HP
  iintro HP
  isplitl [HG]; · iexact HG
  isplitl [HB]; · iexact HB
  isplitl [HL]; · iexact HL
  isplitl [HS]; · iexact HS
  isplitl [HR]; · iexact HR
  isplitl [HO]; · iexact HO
  isplitl [HI]; · iexact HI
  isplitl [HP] <;> iassumption
theorem st_out (o' : ℕ) : St Av Bv c b d q n v w a o g ⊢ iprop(OutS Av Bv c o ∗ (OutS Av Bv c o' -∗ St Av Bv c b d q n v w a o' g)) := by
  unfold St
  iintro ⟨HG, HB, HL, HS, HR, HO, HI, HP, HT⟩
  isplitl [HT]; · iexact HT
  iintro HT
  isplitl [HG]; · iexact HG
  isplitl [HB]; · iexact HB
  isplitl [HL]; · iexact HL
  isplitl [HS]; · iexact HS
  isplitl [HR]; · iexact HR
  isplitl [HO]; · iexact HO
  isplitl [HI]; · iexact HI
  isplitl [HP] <;> iassumption
theorem st_snd (q' : ℕ) : St Av Bv c b d q n v w a o g ⊢ iprop(SndS Av Bv c q n v ∗ (SndS Av Bv c q' n v -∗ St Av Bv c b d q' n v w a o g)) := by
  unfold St
  iintro ⟨HG, HB, HL, HS, HR, HO, HI, HP, HT⟩
  isplitl [HS]; · iexact HS
  iintro HS
  isplitl [HG]; · iexact HG
  isplitl [HB]; · iexact HB
  isplitl [HL]; · iexact HL
  isplitl [HS]; · iexact HS
  isplitl [HR]; · iexact HR
  isplitl [HO]; · iexact HO
  isplitl [HI]; · iexact HI
  isplitl [HP] <;> iassumption
theorem st_rcv : St Av Bv c b d q n v w a o g ⊢ iprop(RcvS Av Bv c w ∗ (RcvS Av Bv c w -∗ St Av Bv c b d q n v w a o g)) := by
  unfold St
  iintro ⟨HG, HB, HL, HS, HR, HO, HI, HP, HT⟩
  isplitl [HR]; · iexact HR
  iintro HR
  isplitl [HG]; · iexact HG
  isplitl [HB]; · iexact HB
  isplitl [HL]; · iexact HL
  isplitl [HS]; · iexact HS
  isplitl [HR]; · iexact HR
  isplitl [HO]; · iexact HO
  isplitl [HI]; · iexact HI
  isplitl [HP] <;> iassumption
theorem st_own (q' g' : ℕ) : St Av Bv c b d q n v w a o g
    ⊢ iprop((OwnS (F := F) c g ∗ SndS Av Bv c q n v) ∗ ((OwnS (F := F) c g' ∗ SndS Av Bv c q' n v) -∗ St Av Bv c b d q' n v w a o g')) := by
  unfold St
  iintro ⟨HG, HB, HL, HS, HR, HO, HI, HP, HT⟩
  isplitl [HO HS]; · isplitl [HO] <;> iassumption
  iintro ⟨HO, HS⟩
  isplitl [HG]; · iexact HG
  isplitl [HB]; · iexact HB
  isplitl [HL]; · iexact HL
  isplitl [HS]; · iexact HS
  isplitl [HR]; · iexact HR
  isplitl [HO]; · iexact HO
  isplitl [HI]; · iexact HI
  isplitl [HP] <;> iassumption

theorem part_then {P S R : sProp 𝕄} (h1 : S ⊢ iprop(P ∗ R)) {P1 P1' R' : sProp 𝕄} (h2 : P ⊢ iprop(P1 ∗ (P1' -∗ R'))) {S' : sProp 𝕄} (h3 : iprop(R' ∗ R) ⊢ S') :
    S ⊢ iprop(P1 ∗ (P1' -∗ S')) := by
  refine h1.trans ?_
  iintro ⟨HP, HR⟩
  ihave H := h2 $$ HP
  icases H with ⟨H1, H2⟩
  isplitl [H1]; · iexact H1
  iintro H1'
  iapply h3
  isplitl [H2 H1']
  · iapply H2; iexact H1'
  iexact HR

theorem wand_apply {P S : sProp 𝕄} : iprop(P ∗ (P -∗ S)) ⊢ S := by
  iintro ⟨H1, H2⟩; iapply H2; iexact H1

/-! ## Loads and stores of the factors, the partial product and the result -/

theorem st_loadA {inb} {hl} {k : Vec F S1024x512 .f32 → TP F α} {Q : α → sProp 𝕄} (h : St Av Bv c b d q n v w a o g ⊢ WP c (k (Av c)) Q) :
    St Av Bv c b d q n v w a o g ⊢ WP c (.op (.load aM (Rect.unit (s := S1024x512) ![0, 0] S1024x512.size inb).toLoadRect hl) k) Q := by
  refine step1 (st_in Av Bv c) ?_ h
  unfold InS
  iintro ⟨H, H2⟩ Hk
  iapply (wp_load_rect (r := Rect.unit (s := S1024x512) ![0, 0] S1024x512.size inb) 𝒱₀ (c : Thread nD τ) none Set.univ (m := aM) (Finset.subset_univ _)) $$ H
  iintro H
  rw [show (aM.access (Rect.unit (s := S1024x512) ![0, 0] S1024x512.size inb)).read (Elt F) (Av c) = Av c from
    Memref.readAt_unit_zero (Elt F) cc0_stg0_0 (by decide) _ (Av c)]
  iapply Hk
  isplitl [H] <;> iassumption

theorem st_loadB (r : Fin 3) {off : Fin 2 → ℕ} {inb} {hl} {k : Vec F ⟨2, ![512, wid r]⟩ .f32 → TP F α} {Q : α → sProp 𝕄} (hoff : off = ![0, col r])
    (h : St Av Bv c b d q n v w a o g ⊢ WP c (k (bst Bv c r)) Q) :
    St Av Bv c b d q n v w a o g ⊢ WP c (.op (.load bM (Rect.unit (s := S512x1024) off (⟨2, ![512, wid r]⟩ : Shape).size inb).toLoadRect hl) k) Q := by
  subst hoff
  refine step1 (st_in Av Bv c) ?_ h
  unfold InS
  iintro ⟨H1, H⟩ Hk
  iapply (wp_load_rect (r := bcol r) 𝒱₀ (c : Thread nD τ) none Set.univ (m := bM) (Finset.subset_univ _)) $$ H
  iintro H
  rw [show (bM.access (bcol r)).read (Elt F) (Bv c) = bst Bv c r from rfl]
  iapply Hk
  isplitl [H1] <;> iassumption

/-- A load whose value is not used. -/
theorem st_deadP {r : Rect S1024x1024} {hl} {k : (r.shape.Idx → Elt F .f32) → TP F α} {Q : α → sProp 𝕄} (h : ∀ V, St Av Bv c b d q n v w a o g ⊢ WP c (k V) Q) :
    St Av Bv c b d q n v w a o g ⊢ WP c (.op (.load pM r.toLoadRect hl) k) Q := by
  refine (st_part Av Bv c d a).trans ?_
  unfold PartS
  iintro ⟨⟨%f, %hf, H⟩, Hk⟩
  iapply (wp_load_rect (r := r) 𝒱₀ (c : Thread nD τ) none Set.univ (m := pM) (Finset.subset_univ _)) $$ H
  iintro H
  iapply h
  iapply Hk
  iexists f
  isplitr; · ipureintro; exact hf
  iexact H
theorem st_deadO {r : Rect S1024x1024} {hl} {k : (r.shape.Idx → Elt F .f32) → TP F α} {Q : α → sProp 𝕄} (h : ∀ V, St Av Bv c b d q n v w a o g ⊢ WP c (k V) Q) :
    St Av Bv c b d q n v w a o g ⊢ WP c (.op (.load oM r.toLoadRect hl) k) Q := by
  refine (st_out Av Bv c o).trans ?_
  unfold OutS
  iintro ⟨⟨%f, %hf, H⟩, Hk⟩
  iapply (wp_load_rect (r := r) 𝒱₀ (c : Thread nD τ) none Set.univ (m := oM) (Finset.subset_univ _)) $$ H
  iintro H
  iapply h
  iapply Hk
  iexists f
  isplitr; · ipureintro; exact hf
  iexact H

theorem pacc_zero (r : Fin 3) (x : Fin 8) : pacc Av Bv c r x 0 = pc0 Av Bv c r (px x c) := by
  unfold pacc; simp

theorem st_dot (r : Fin 3) {d' : ℕ} {off : Fin 2 → ℕ} {inb} {w0 : Vec F ⟨2, ![1024, wid r]⟩ .f32} {hx hm} {k : PUnit → TP F α} {Q : α → sProp 𝕄}
    (hoff : off = ![0, col r]) (hw : w0 = dotS Av Bv c r) (hd : r.val = d) (hd' : d + 1 = d')
    (h : St Av Bv c b d' q n v w 0 o g ⊢ WP c (k ⟨⟩) Q) :
    St Av Bv c b d q n v w 0 o g ⊢ WP c (.op (.store pM (Rect.unit (s := S1024x1024) off (⟨2, ![1024, wid r]⟩ : Shape).size inb) w0 Finset.univ hx hm) k) Q := by
  subst hoff; subst hw; subst hd; subst hd'
  refine step1 (st_part Av Bv c (r.val + 1) 0) ?_ h
  unfold PartS
  iintro ⟨%f, %hf, H⟩ Hk
  iapply (wp_store 𝒱₀ (c : Thread nD τ) none Set.univ (m := pM) (r := pcol r) (Mk := Finset.univ) (Finset.subset_univ _)) $$ H
  iintro H
  iapply Hk
  iexists ((pM.access (pcol r)).write (Elt F) f (dotS Av Bv c r) Finset.univ)
  isplitr
  · ipureintro
    intro r' x hr'
    funext y
    by_cases hr : r = r'
    · subst hr
      rw [pacc_zero, ← chk_in]
      exact w_in cc0_scratch0 (pcol r) f (dotS Av Bv c r) _
    · exact (w_out cc0_scratch0 (pcol r) f (dotS Av Bv c r) _ (pcol_out hr y)).trans (congrFun (hf r' x (by have : r.val ≠ r'.val := fun h => hr (Fin.ext h); omega)) y)
  iexact H

theorem st_loadP (r : Fin 3) (x : Fin 8) {off : Fin 2 → ℕ} {inb} {hl} {k : Vec F (SC r) .f32 → TP F α} {Q : α → sProp 𝕄}
    (hoff : off = ![128 * (px x c).val, col r]) (hd : r.val < d) (h : St Av Bv c b d q n v w a o g ⊢ WP c (k (pacc Av Bv c r x a)) Q) :
    St Av Bv c b d q n v w a o g ⊢ WP c (.op (.load pM (Rect.unit (s := S1024x1024) off (SC r).size inb).toLoadRect hl) k) Q := by
  subst hoff
  refine step1 (st_part Av Bv c d a) ?_ h
  unfold PartS
  iintro ⟨%f, %hf, H⟩ Hk
  iapply (wp_load_rect (r := chk r (px x c)) 𝒱₀ (c : Thread nD τ) none Set.univ (m := pM) (Finset.subset_univ _)) $$ H
  iintro H
  rw [show (pM.access (chk r (px x c))).read (Elt F) f = pacc Av Bv c r x a from hf r x hd]
  iapply Hk
  iexists f
  isplitr; · ipureintro; exact hf
  iexact H

theorem px_inj {x x' : Fin 8} {c : Dev nD} : px x c = px x' c → x = x' := by revert x x' c; decide +kernel

/-- The `a`-th accumulation adds arrival `k` to the chunk of label `x`. -/
def AccAt (r : Fin 3) (x : Fin 8) (k : Fin 7) (a : ℕ) : Prop :=
  (k = 0 ∧ x = 0 ∧ a = 2 * r.val) ∨ (k = 2 ∧ x = mk (r + 2) ∧ a = 2 * r.val + 1) ∨ (k = 4 ∧ x = 0 ∧ a = 6 + r.val)
instance (r : Fin 3) (x : Fin 8) (k : Fin 7) (a : ℕ) : Decidable (AccAt r x k a) := by unfold AccAt; infer_instance

theorem mk_ne : ∀ t : Fin 3, mk t ≠ 0 := by decide

theorem pacc_other {r : Fin 3} {x : Fin 8} {k : Fin 7} {a : ℕ} (hk : AccAt r x k a) {r' : Fin 3} {x' : Fin 8} (h : ¬(r' = r ∧ x' = x)) :
    pacc Av Bv c r' x' (a + 1) = pacc Av Bv c r' x' a := by
  have hr := r.isLt; have hr' := r'.isLt
  have hrr : r.val = r'.val → r' = r := fun h => (Fin.ext h).symm
  have m1 := mk_ne (r + 2)
  unfold pacc
  by_cases hx : x' = 0
  · rw [if_pos hx, if_pos hx]
    have e1 : 6 + r'.val < a + 1 ↔ 6 + r'.val < a := by
      rcases hk with ⟨-, hx0, ha⟩ | ⟨-, hx0, ha⟩ | ⟨-, hx0, ha⟩
      · omega
      · omega
      · have : r.val ≠ r'.val := fun e => h ⟨hrr e, hx.trans hx0.symm⟩
        omega
    have e2 : 2 * r'.val < a + 1 ↔ 2 * r'.val < a := by
      rcases hk with ⟨-, hx0, ha⟩ | ⟨-, hx0, ha⟩ | ⟨-, hx0, ha⟩
      · have : r.val ≠ r'.val := fun e => h ⟨hrr e, hx.trans hx0.symm⟩
        omega
      · omega
      · omega
    simp only [e1, e2]
  · rw [if_neg hx, if_neg hx]
    have e : (x' = mk (r' + 2) ∧ 2 * r'.val + 1 < a + 1) ↔ (x' = mk (r' + 2) ∧ 2 * r'.val + 1 < a) := by
      refine and_congr_right fun hx' => ?_
      rcases hk with ⟨-, hx0, ha⟩ | ⟨-, hx0, ha⟩ | ⟨-, hx0, ha⟩
      · omega
      · have : r.val ≠ r'.val := fun e => h ⟨hrr e, by rw [hx', hx0, hrr e]⟩
        omega
      · omega
    simp only [e]
theorem pacc_step {r : Fin 3} {x : Fin 8} {k : Fin 7} {a : ℕ} (hk : AccAt r x k a) :
    pacc Av Bv c r x (a + 1) = addf (pacc Av Bv c r x a) (ex (val Av Bv (peer (false, r, k) c) (false, r, k))) := by
  have hr := r.isLt
  unfold pacc
  rcases hk with ⟨hk, hx, ha⟩ | ⟨hk, hx, ha⟩ | ⟨hk, hx, ha⟩
  · subst hk; subst hx; subst ha
    rw [if_pos rfl, if_pos rfl, if_neg (by omega), if_pos (by omega), if_neg (by omega), if_neg (by omega)]
  · subst hk; subst hx; subst ha
    rw [if_neg (mk_ne _), if_neg (mk_ne _), if_pos ⟨rfl, by omega⟩, if_neg (fun h => by have := h.2; omega)]
  · subst hk; subst hx; subst ha
    rw [if_pos rfl, if_pos rfl, if_pos (by omega), if_neg (by omega), if_pos (by omega)]

theorem st_acc (r : Fin 3) (x : Fin 8) (k : Fin 7) {a' : ℕ} {off : Fin 2 → ℕ} {inb} {w0 : Vec F (SC r) .f32} {hx hm} {kk : PUnit → TP F α} {Q : α → sProp 𝕄}
    (hoff : off = ![128 * (px x c).val, col r]) (hk : AccAt r x k a) (ha : a + 1 = a')
    (hw : w0 = addf (pacc Av Bv c r x a) (ex (val Av Bv (peer (false, r, k) c) (false, r, k))))
    (h : St Av Bv c b d q n v w a' o g ⊢ WP c (kk ⟨⟩) Q) :
    St Av Bv c b d q n v w a o g ⊢ WP c (.op (.store pM (Rect.unit (s := S1024x1024) off (SC r).size inb) w0 Finset.univ hx hm) kk) Q := by
  subst hoff; subst ha
  rw [← pacc_step Av Bv c hk] at hw
  subst hw
  refine step1 (st_part Av Bv c d (a + 1)) ?_ h
  unfold PartS
  iintro ⟨%f, %hf, H⟩ Hk
  iapply (wp_store 𝒱₀ (c : Thread nD τ) none Set.univ (m := pM) (r := chk r (px x c)) (Mk := Finset.univ) (Finset.subset_univ _)) $$ H
  iintro H
  iapply Hk
  iexists ((pM.access (chk r (px x c))).write (Elt F) f (pacc Av Bv c r x (a + 1)) Finset.univ)
  isplitr
  · ipureintro
    intro r' x' hr'
    funext y
    by_cases hr : r' = r ∧ x' = x
    · obtain ⟨rfl, rfl⟩ := hr
      exact w_in cc0_scratch0 (chk r' (px x' c)) f _ y
    · rw [pacc_other Av Bv c hk hr]
      exact (w_out cc0_scratch0 (chk r (px x c)) f _ _ (chk_out (fun e => hr ⟨e.1.symm, (px_inj e.2).symm⟩) y)).trans (congrFun (hf r' x' hr') y)
  iexact H

theorem st_outW (r : Fin 3) (x : Fin 8) {o' : ℕ} {off : Fin 2 → ℕ} {inb} {w0 : Vec F (SC r) .f32} {hx hm} {kk : PUnit → TP F α} {Q : α → sProp 𝕄}
    (hoff : off = ![128 * (px x c).val, col r]) (ho : ox r x = o) (ho' : o + 1 = o') (hw : w0 = oval Av Bv c r x)
    (h : St Av Bv c b d q n v w a o' g ⊢ WP c (kk ⟨⟩) Q) :
    St Av Bv c b d q n v w a o g ⊢ WP c (.op (.store oM (Rect.unit (s := S1024x1024) off (SC r).size inb) w0 Finset.univ hx hm) kk) Q := by
  subst hoff; subst ho; subst ho'; subst hw
  refine step1 (st_out Av Bv c (ox r x + 1)) ?_ h
  unfold OutS
  iintro ⟨%f, %hf, H⟩ Hk
  iapply (wp_store 𝒱₀ (c : Thread nD τ) none Set.univ (m := oM) (r := chk r (px x c)) (Mk := Finset.univ) (Finset.subset_univ _)) $$ H
  iintro H
  iapply Hk
  iexists ((oM.access (chk r (px x c))).write (Elt F) f (oval Av Bv c r x) Finset.univ)
  isplitr
  · ipureintro
    intro r' x' hr'
    funext y
    by_cases hr : r' = r ∧ x' = x
    · obtain ⟨rfl, rfl⟩ := hr
      exact w_in cc0_stg2_0 (chk r' (px x' c)) f _ y
    · refine (w_out cc0_stg2_0 (chk r (px x c)) f _ _ (chk_out (fun e => hr ⟨e.1.symm, (px_inj e.2).symm⟩) y)).trans (congrFun (hf r' x' ?_) y)
      have : ox r' x' ≠ ox r x := fun e => hr (ox_inj _ _ _ _ e)
      omega
  iexact H

end St

end Cert.KernelIdeal.Run
end
-- ==== Proof.Bufs.lean ====
/-
# The scratch buffers, cut into slots and put back together

At the start every scratch buffer is held whole. Its slots are dealt out: a device's landing places go to the devices that
fill them, its staging slots and its own rows of the gather buffer stay with it. At the end the slots, and the shares of
the gather rows that were lent to the transfers, are put together again.
-/
module

public import proofs.«01_k».proof.Proof.State
public import proofs.«01_k».proof.Proof.Steps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)

variable {F : FTy → Type} [FloatOps F]

local notation "𝕄" => MT nD τ sig Unit (Elt F) ℕ UU ℕ

/-! ## Families over the transfers -/

theorem tx_split (Φ : Tx → sProp 𝕄) :
    bigSep Finset.univ Φ = iprop((bigSep Finset.univ fun r : Fin 3 => bigSep Finset.univ fun k : Fin 7 => Φ (false, r, k))
      ∗ (bigSep Finset.univ fun r : Fin 3 => bigSep Finset.univ fun k : Fin 7 => Φ (true, r, k))) := by
  rw [bigSep_univ_prod, bigSep_univ_eq_bigSepL [false, true] (by decide) (by decide)]
  show iprop(bigSep Finset.univ (fun b : Fin 3 × Fin 7 => Φ (false, b)) ∗ bigSep Finset.univ (fun b : Fin 3 × Fin 7 => Φ (true, b))) = _
  rw [bigSep_univ_prod, bigSep_univ_prod]

theorem emps {ι : Type} [Fintype ι] {A : ι → sProp 𝕄} (h : ∀ i, A i = iprop(emp)) : bigSep Finset.univ A = iprop(emp) := by
  rw [bigSep_congr (Ψ := fun _ => iprop(emp)) fun i _ => h i]
  exact bigSep_emp_const _

theorem mono {ι : Type} [Fintype ι] {A B : ι → sProp 𝕄} (h : ∀ i, A i ⊢ B i) : bigSep Finset.univ A ⊢ bigSep Finset.univ B :=
  bigSep_mono fun i _ => h i
theorem assoc {P Q R : sProp 𝕄} : iprop((P ∗ Q) ∗ R) = iprop(P ∗ Q ∗ R) :=
  Entails.antisymm BI.sep_assoc BI.sep_assoc'

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem three (Φ : Fin 3 → sProp 𝕄) : bigSep Finset.univ Φ = iprop(Φ 0 ∗ Φ 1 ∗ Φ 2) :=
  bigSep_univ_eq_bigSepL [0, 1, 2] (by decide) (by decide) Φ

/-! ## One buffer's slots -/

theorem slot_disj {n : ℕ} (r : Fin 3) (m : Memref sig .tc .vmem (SB n r) .bf16) (b b' : Fin n) (h : b ≠ b') :
    Disjoint (slotM r m b.val b.isLt).view.set (slotM r m b'.val b'.isLt).view.set := by
  rw [slot_set, slot_set]
  refine (congrArg₂ Disjoint (View.set_slice (v := m.view) (slotR r b.val b.isLt)) (View.set_slice (v := m.view) (slotR r b'.val b'.isLt))).mpr ?_
  rw [Finset.disjoint_map]
  exact lead_disjoint (s := SB n r) 0 1 (fun b : Fin n => ![b.val, 0, 0]) (SU r).size (fun b => slot_inb r b.isLt)
    (fun b => (Nat.one_mul _).symm) rfl b b' h

abbrev slotSet {n : ℕ} (r : Fin 3) (m : Memref sig .tc .vmem (SB n r) .bf16) (b : Fin n) : Finset m.view.ty.Idx := (slotM r m b.val b.isLt).view.set

theorem slot_cover {n : ℕ} (r : Fin 3) (m : Memref sig .tc .vmem (SB n r) .bf16) (hw : m.view.set = Finset.univ) :
    (Finset.univ : Finset (Fin n)).biUnion (slotSet r m) = Finset.univ := by
  have hc := lead_cover (s := SB n r) 0 1 (fun b : Fin n => ![b.val, 0, 0]) (SU r).size (fun b => slot_inb r b.isLt)
    (fun b => (Nat.one_mul _).symm) (fun b a ha => by fin_cases a; exacts [absurd rfl ha, rfl, rfl]) rfl
    (fun a ha => by fin_cases a; exacts [absurd rfl ha, rfl, rfl]) (Nat.mul_one n)
  rw [← hw]
  refine (Finset.biUnion_congr rfl fun b _ => (slot_set r m b.isLt).trans (View.set_slice (v := m.view) (slotR r b.val b.isLt))).trans ?_
  ext i
  constructor
  · intro hi
    obtain ⟨b, _, hb⟩ := Finset.mem_biUnion.mp hi
    obtain ⟨y, _, rfl⟩ := Finset.mem_map.mp hb
    exact Finset.mem_map.mpr ⟨y, Finset.mem_univ _, rfl⟩
  · intro hi
    obtain ⟨y, _, rfl⟩ := Finset.mem_map.mp hi
    obtain ⟨b, hb, hy⟩ := Finset.mem_biUnion.mp (hc.symm ▸ Finset.mem_univ y)
    exact Finset.mem_biUnion.mpr ⟨b, hb, Finset.mem_map.mpr ⟨y, hy, rfl⟩⟩

/-- A memref at some contents. -/
abbrev some16 (c : Dev nD) {s : Shape} (m : Memref sig .tc .vmem s .bf16) : sProp 𝕄 :=
  iprop(∃ X : Vec F s .bf16, owns (c : Thread nD τ) m fullShare X)
/-- A buffer, whole, at some contents. -/
abbrev buf16 (c : Dev nD) {s : Shape} (m : Memref sig .tc .vmem s .bf16) : sProp 𝕄 :=
  iprop(∃ f : Buf (Elt F) (m.view.loc (c : Thread nD τ)), m.view.loc (c : Thread nD τ) ↦{fullShare} f)

theorem slots_cut {n : ℕ} (c : Dev nD) (r : Fin 3) (m : Memref sig .tc .vmem (SB n r) .bf16) (hw : m.view.set = Finset.univ) :
    buf16 c m ⊢ bigSep Finset.univ fun j : Fin n => some16 (F := F) c (slotM r m j.val j.isLt) := by
  iintro ⟨%f, H⟩
  iapply (show (m.view.loc (c : Thread nD τ) ↦{fullShare} f : sProp 𝕄) ⊢ bigSep Finset.univ fun j : Fin n => some16 (F := F) c (slotM r m j.val j.isLt) from ?_) $$ H
  refine (Entails.of_eq (pointsTo_blocks (ℓ := m.view.loc (c : Thread nD τ)) (slotSet r m)
    (slot_disj r m) (slot_cover r m hw) f)).trans (mono fun j => ?_)
  iintro H
  iexists _
  iapply (owns_intro (c : Thread nD τ) (slotM r m j.val j.isLt) fullShare f) $$ H

theorem slots_back {n : ℕ} (h0 : 0 < n) (c : Dev nD) (r : Fin 3) (m : Memref sig .tc .vmem (SB n r) .bf16) (hw : m.view.set = Finset.univ) :
    (bigSep Finset.univ fun j : Fin n => some16 (F := F) c (slotM r m j.val j.isLt)) ⊢ buf16 c m := by
  have hmono : (bigSep Finset.univ fun j : Fin n => some16 (F := F) c (slotM r m j.val j.isLt))
      ⊢ bigSep Finset.univ fun j : Fin n => iprop(∃ f : Buf (Elt F) (m.view.loc (c : Thread nD τ)), m.view.loc (c : Thread nD τ) ↦[(slotM r m j.val j.isLt).view.set]{fullShare} f) :=
    bigSep_mono fun j _ => by
      refine (show iprop(∃ X : Vec F (SC r) .bf16, ∃ f : Buf (Elt F) (m.view.loc (c : Thread nD τ)), ⌜(slotM r m j.val j.isLt).view.read (Elt F) f = X⌝
        ∗ (m.view.loc (c : Thread nD τ) ↦[(slotM r m j.val j.isLt).view.set]{fullShare} f)) ⊢ iprop(∃ f : Buf (Elt F) (m.view.loc (c : Thread nD τ)), m.view.loc (c : Thread nD τ) ↦[(slotM r m j.val j.isLt).view.set]{fullShare} f) from ?_)
      iintro ⟨%X, %f, -, H⟩
      iexists f; iexact H
  by_cases hne : Nonempty (Buf (Elt F) (m.view.loc (c : Thread nD τ)))
  · obtain ⟨f₀⟩ := hne
    exact hmono.trans (pointsTo_blocks_join_exists (ℓ := m.view.loc (c : Thread nD τ)) (slotSet r m)
      (slot_disj r m) (slot_cover r m hw) f₀)
  · refine (hmono.trans (bigSep_elim (Finset.mem_univ (⟨0, h0⟩ : Fin n)))).trans ?_
    iintro ⟨%f, -⟩
    exact absurd ⟨f⟩ hne

theorem rb_all (r : Fin 3) : (rb r).view.set = Finset.univ := by fin_cases r <;> exact View.set_whole _
theorem sb_all (r : Fin 3) : (sb r).view.set = Finset.univ := by fin_cases r <;> exact View.set_whole _
theorem gb_all (r : Fin 3) : (gb r).view.set = Finset.univ := by fin_cases r <;> exact View.set_whole _

/-! ## The gather buffer's rows, by the transfer that fills them -/

/-- The label, relative to the receiver, of the rows that the gather's transfers fill; and its own. -/
def gx (r : Fin 3) : Option (Fin 7) → Fin 8
  | none => 0
  | some k => lab (true, r, k) ^^^ msk (true, r, k)
theorem gx_bij (c : Dev nD) (r : Fin 3) : Function.Bijective fun o => px (gx r o) c := by
  revert r c; decide +kernel
def gxE (c : Dev nD) (r : Fin 3) : Option (Fin 7) ≃ Dev nD := Equiv.ofBijective _ (gx_bij c r)
theorem px_comp (a b : Fin 8) (c : Dev nD) : px a (px b c) = px (a ^^^ b) c := by revert a b c; decide +kernel

theorem opt_split {ι : Type} [Fintype ι] [DecidableEq ι] (Φ : Option ι → sProp 𝕄) :
    bigSep Finset.univ Φ = iprop(Φ none ∗ bigSep Finset.univ fun i => Φ (some i)) := by
  rw [bigSep_univ_split none]
  refine congrArg (fun P => iprop(Φ none ∗ P)) ?_
  have h : (Finset.univ.erase none : Finset (Option ι)) = Finset.univ.map Function.Embedding.some := by
    ext o; cases o <;> simp
  rw [h, bigSep_map]; rfl

/-- A transfer's landing place, at the device that holds it first. -/
def pl (c : Dev nD) (i : Tx) : sProp 𝕄 := some16 (F := F) c (dstM (peer i c) i)

theorem gb_rows (c : Dev nD) (r : Fin 3) :
    (bigSep Finset.univ fun j : Fin 8 => some16 (F := F) c (slotM r (gb r) j.val j.isLt))
      = iprop(some16 (F := F) c (gch r c) ∗ bigSep Finset.univ fun k : Fin 7 => pl c (true, r, k)) := by
  rw [bigSep_univ_equiv (gxE c r), opt_split]
  refine congrArg₂ (fun P Q => iprop(P ∗ Q)) ?_ (bigSep_congr fun k _ => ?_)
  · show some16 (F := F) c (gch r (px 0 c)) = _
    rw [px_zero]
  · show some16 (F := F) c (gch r (px (lab (true, r, k) ^^^ msk (true, r, k)) c)) = some16 (F := F) c (gch r (px (lab (true, r, k)) (px (msk (true, r, k)) c)))
    rw [px_comp]

/-! ## All of the scratch -/

/-- The scratch as the launch hands it over, -/
def scr (c : Dev nD) : sProp 𝕄 :=
  iprop((∃ f : Buf (Elt F) ((c : Thread nD τ).loc cc0_scratch0), ((c : Thread nD τ).loc cc0_scratch0) ↦{fullShare} f)
    ∗ (bigSep Finset.univ fun r => buf16 (F := F) c (rb r)) ∗ (bigSep Finset.univ fun r => buf16 (F := F) c (sb r))
    ∗ (bigSep Finset.univ fun r => buf16 (F := F) c (gb r)))
/-- and dealt out. -/
def bufs (c : Dev nD) : sProp 𝕄 :=
  iprop((∃ f : Buf (Elt F) ((c : Thread nD τ).loc cc0_scratch0), ((c : Thread nD τ).loc cc0_scratch0) ↦{fullShare} f)
    ∗ (bigSep Finset.univ fun t => barPay (F := F) (px (mk t) c) t) ∗ (bigSep Finset.univ (raw (F := F) c)) ∗ OwnS (F := F) c 0)

theorem scr_eq (c : Dev nD) : (scr c : sProp 𝕄) = Pipeline.scopedRest (Ix := Unit) (Name := ℕ) (U := UU) (Lvl := ℕ) (Val := Elt F) spec0 c := by
  rw [scopedRest0_eq]
  unfold scr
  rw [three, three, three]
  rw [assoc, assoc, assoc, assoc]
  rfl

theorem pl_all (c : Dev nD) : (bigSep Finset.univ fun t : Fin 3 => barPay (F := F) (px (mk t) c) t) = bigSep Finset.univ (pl (F := F) c) := by
  unfold barPay
  rw [bigSep_univ_comm]
  refine bigSep_congr fun i _ => ?_
  rw [bigSep_univ_split (mi i), if_pos rfl, bigSep_congr (Ψ := fun _ => iprop(emp)) fun t ht => if_neg (Ne.symm (Finset.ne_of_mem_erase ht))]
  refine (congrArg (fun P => iprop(land (F := F) (px (mk (mi i)) c) i ∗ P)) (bigSep_emp_const _)).trans ?_
  refine (equiv_iff.mp sep_emp).trans ?_
  show some16 (F := F) (peer i (peer i c)) (dstM (peer i c) i) = _
  rw [peer_peer]; rfl

theorem scr_cut (c : Dev nD) : scr (F := F) c ⊢ bufs c := by
  unfold scr bufs OwnS
  rw [pl_all, tx_split (pl c), tx_split (raw c)]
  rw [emps (A := fun r : Fin 3 => bigSep Finset.univ fun k : Fin 7 => raw (F := F) c (true, r, k)) fun r => emps fun k => rfl]
  iintro ⟨HP, HR, HS, HG⟩
  ihave HR := (mono fun r => slots_cut (F := F) c r (rb r) (rb_all r)) $$ HR
  ihave HS := (mono fun r => slots_cut (F := F) c r (sb r) (sb_all r)) $$ HS
  ihave HG := (mono fun r => (slots_cut (F := F) c r (gb r) (gb_all r)).trans (Entails.of_eq (gb_rows c r))) $$ HG
  ihave HG := (Entails.of_eq (bigSep_sep' Finset.univ _ _)) $$ HG
  icases HG with ⟨HG1, HG2⟩
  isplitl [HP]; · iexact HP
  isplitl [HR HG2]
  · isplitl [HR]; · iexact HR
    iexact HG2
  isplitl [HS]
  · isplitl [HS]; · iexact HS
    iempintro
  iexact HG1

/-! ## Back together -/

section Back
variable (Av : Dev nD → FVec F S1024x512 .f32) (Bv : Dev nD → FVec F S512x1024 .f32) (c : Dev nD)

theorem halves_back {s : Shape} {m : Memref sig .tc .vmem s .bf16} {q : PosShare TreeShare} {X : Vec F s .bf16} :
    iprop(owns (c : Thread nD τ) m q.left X ∗ owns (c : Thread nD τ) m q.right X) ⊢ (owns (c : Thread nD τ) m q X : sProp 𝕄) :=
  (owns_halves (c : Thread nD τ) m q X).2

/-- What a device holds of stripe `r`'s gather rows `x`, with share `q`. -/
def gown (r : Fin 3) (x : Fin 8) (q : PosShare TreeShare) : sProp 𝕄 := owns (c : Thread nD τ) (gch r (px x c)) q (gval Av Bv (px x c) r)

theorem gown_send (r : Fin 3) (k : Fin 7) : sendPay Av Bv c (true, r, k) = gown Av Bv c r (lab (true, r, k)) (shr (true, r, k)) := rfl
theorem gown_recv (r : Fin 3) (k : Fin 7) :
    owns (c : Thread nD τ) (dstM (peer (true, r, k) c) (true, r, k)) (kp (true, r, k)) (val Av Bv (peer (true, r, k) c) (true, r, k))
      = gown Av Bv c r (lab (true, r, k) ^^^ msk (true, r, k)) (kp (true, r, k)) := by
  unfold gown; rw [← px_comp]; rfl
theorem gown_some (r : Fin 3) (k : Fin 7) : gown Av Bv c r (lab (true, r, k) ^^^ msk (true, r, k)) fullShare ⊢ pl (F := F) c (true, r, k) := by
  rw [show gown Av Bv c r (lab (true, r, k) ^^^ msk (true, r, k)) fullShare
    = owns (c : Thread nD τ) (dstM (peer (true, r, k) c) (true, r, k)) fullShare (val Av Bv (peer (true, r, k) c) (true, r, k)) by
      unfold gown; rw [← px_comp]; rfl]
  unfold pl some16
  iintro H; iexists _; iexact H

theorem gx_lab (r : Fin 3) : lab (true, r, 0) = 0 ∧ lab (true, r, 1) = 0 ∧ lab (true, r, 3) = 0
    ∧ lab (true, r, 2) = lab (true, r, 0) ^^^ msk (true, r, 0) ∧ lab (true, r, 4) = lab (true, r, 0) ^^^ msk (true, r, 0)
    ∧ lab (true, r, 5) = lab (true, r, 1) ^^^ msk (true, r, 1) ∧ lab (true, r, 6) = lab (true, r, 2) ^^^ msk (true, r, 2) := by
  revert r; decide

/-- Rows held in shares, put together: the shares the transfers read with, and those kept of what has arrived. -/
theorem gather_join (G : Fin 8 → PosShare TreeShare → sProp 𝕄) (hj : ∀ x q, iprop(G x q.left ∗ G x q.right) ⊢ G x q) (r : Fin 3)
    {O : sProp 𝕄} {P : Fin 7 → sProp 𝕄} (ho : G 0 fullShare ⊢ O) (hp : ∀ k, G (lab (true, r, k) ^^^ msk (true, r, k)) fullShare ⊢ P k) :
    iprop((bigSep Finset.univ fun k : Fin 7 => G (lab (true, r, k)) (shr (true, r, k)))
      ∗ bigSep Finset.univ fun k : Fin 7 => G (lab (true, r, k) ^^^ msk (true, r, k)) (kp (true, r, k)))
      ⊢ iprop(O ∗ bigSep Finset.univ P) := by
  obtain ⟨h0, h1, h3, h2, h4, h5, h6⟩ := gx_lab r
  rw [seven, seven, seven P]
  refine (show iprop((G (lab (true, r, 0)) fullShare.left ∗ G (lab (true, r, 1)) fullShare.right.left ∗ G (lab (true, r, 2)) fullShare.right.left
      ∗ G (lab (true, r, 3)) fullShare.right.right ∗ G (lab (true, r, 4)) fullShare.right.right ∗ G (lab (true, r, 5)) fullShare.right ∗ G (lab (true, r, 6)) fullShare.right)
    ∗ (G (lab (true, r, 0) ^^^ msk (true, r, 0)) fullShare.left ∗ G (lab (true, r, 1) ^^^ msk (true, r, 1)) fullShare.left
      ∗ G (lab (true, r, 2) ^^^ msk (true, r, 2)) fullShare.left ∗ G (lab (true, r, 3) ^^^ msk (true, r, 3)) fullShare
      ∗ G (lab (true, r, 4) ^^^ msk (true, r, 4)) fullShare ∗ G (lab (true, r, 5) ^^^ msk (true, r, 5)) fullShare
      ∗ G (lab (true, r, 6) ^^^ msk (true, r, 6)) fullShare)) ⊢ iprop(O ∗ P 0 ∗ P 1 ∗ P 2 ∗ P 3 ∗ P 4 ∗ P 5 ∗ P 6) from ?_)
  have e0 : G (lab (true, r, 0)) = G 0 := congrArg G h0
  have e1 : G (lab (true, r, 1)) = G 0 := congrArg G h1
  have e3 : G (lab (true, r, 3)) = G 0 := congrArg G h3
  rw [congrArg G h2, congrArg G h4, congrArg G h5, congrArg G h6, e0, e1, e3]
  iintro ⟨⟨S0, S1, S2, S3, S4, S5, S6⟩, R0, R1, R2, R3, R4, R5, R6⟩
  isplitl [S0 S1 S3]
  · iapply ho; iapply hj; isplitl [S0]; · iexact S0
    iapply hj; isplitl [S1] <;> iassumption
  isplitl [R0 S2 S4]
  · iapply (hp 0); iapply hj; isplitl [R0]; · iexact R0
    iapply hj; isplitl [S2] <;> iassumption
  isplitl [R1 S5]
  · iapply (hp 1); iapply hj; isplitl [R1] <;> iassumption
  isplitl [R2 S6]
  · iapply (hp 2); iapply hj; isplitl [R2] <;> iassumption
  isplitl [R3]; · iapply (hp 3); iexact R3
  isplitl [R4]; · iapply (hp 4); iexact R4
  isplitl [R5]; · iapply (hp 5); iexact R5
  iapply (hp 6); iexact R6

theorem gather_back (r : Fin 3) :
    iprop((bigSep Finset.univ fun k : Fin 7 => sendPay Av Bv c (true, r, k))
      ∗ bigSep Finset.univ fun k : Fin 7 => owns (c : Thread nD τ) (dstM (peer (true, r, k) c) (true, r, k)) (kp (true, r, k)) (val Av Bv (peer (true, r, k) c) (true, r, k)))
      ⊢ iprop(some16 (F := F) c (gch r c) ∗ bigSep Finset.univ fun k : Fin 7 => pl c (true, r, k)) := by
  rw [bigSep_congr fun k _ => gown_recv Av Bv c r k, show (bigSep Finset.univ fun k : Fin 7 => sendPay Av Bv c (true, r, k))
    = bigSep Finset.univ fun k : Fin 7 => gown Av Bv c r (lab (true, r, k)) (shr (true, r, k)) from rfl]
  exact gather_join (gown Av Bv c r) (fun x q => halves_back c) r
    (by unfold gown some16; rw [px_zero]; iintro H; iexists _; iexact H) (fun k => gown_some Av Bv c r k)

/-- The semaphores, all at zero. -/
def sems : sProp 𝕄 := bigSep Finset.univ fun x : Bool × Tx => semVal (kcell c (some x)) 0

theorem sems_split : sems (F := F) c = iprop((bigSep Finset.univ fun i : Tx => semVal (sendCell c i) 0) ∗ bigSep Finset.univ fun i : Tx => semVal (recvCell c i) 0) := by
  unfold sems
  rw [bigSep_univ_prod (fun x : Bool × Tx => (semVal (kcell c (some x)) 0 : sProp 𝕄)), bigSep_univ_eq_bigSepL [false, true] (by decide) (by decide)]; rfl

theorem some_intro {s : Shape} (m : Memref sig .tc .vmem s .bf16) (X : Vec F s .bf16) : owns (c : Thread nD τ) m fullShare X ⊢ some16 (F := F) c m := by
  iintro H; iexists X; iexact H

theorem rb_slot (r : Fin 3) (k : Fin 7) :
    owns (c : Thread nD τ) (dstM (peer (false, r, k) c) (false, r, k)) (kp (false, r, k)) (val Av Bv (peer (false, r, k) c) (false, r, k))
      ⊢ some16 (F := F) c (slotM r (rb r) k.val k.isLt) := by
  generalize val Av Bv (peer (false, r, k) c) (false, r, k) = X
  exact some_intro c (slotM r (rb r) k.val k.isLt) X
theorem sb_slot (r : Fin 3) (k : Fin 7) : sendPay Av Bv c (false, r, k) ⊢ some16 (F := F) c (slotM r (sb r) k.val k.isLt) := by
  unfold sendPay
  generalize val Av Bv c (false, r, k) = X
  exact some_intro c (slotM r (sb r) k.val k.isLt) X

theorem rb_back (r : Fin 3) :
    (bigSep Finset.univ fun k : Fin 7 => owns (c : Thread nD τ) (dstM (peer (false, r, k) c) (false, r, k)) (kp (false, r, k)) (val Av Bv (peer (false, r, k) c) (false, r, k)))
      ⊢ buf16 (F := F) c (rb r) :=
  (mono fun k => rb_slot Av Bv c r k).trans (slots_back (n := 7) (by decide) c r (rb r) (rb_all r))
theorem sb_back (r : Fin 3) : (bigSep Finset.univ fun k : Fin 7 => sendPay Av Bv c (false, r, k)) ⊢ buf16 (F := F) c (sb r) :=
  (mono fun k => sb_slot Av Bv c r k).trans (slots_back (n := 7) (by decide) c r (sb r) (sb_all r))
theorem gb_back (r : Fin 3) :
    iprop((bigSep Finset.univ fun k : Fin 7 => sendPay Av Bv c (true, r, k))
      ∗ bigSep Finset.univ fun k : Fin 7 => owns (c : Thread nD τ) (dstM (peer (true, r, k) c) (true, r, k)) (kp (true, r, k)) (val Av Bv (peer (true, r, k) c) (true, r, k)))
      ⊢ buf16 (F := F) c (gb r) :=
  (gather_back Av Bv c r).trans ((Entails.of_eq (gb_rows c r).symm).trans (slots_back (by decide) c r (gb r) (gb_all r)))

/-- At the end: the semaphores at zero and the scratch whole. -/
theorem st_exit : St Av Bv c 4 3 42 42 42 42 9 24 3
    ⊢ iprop((∃ W, owes (c : Thread nD τ) (0 : CellTallies nD τ sig Unit) W) ∗ semVal (barCell c) 0 ∗ sems (F := F) c ∗ scr (F := F) c ∗ InS Av Bv c ∗ OutS Av Bv c 24) := by
  unfold St Gh SndS RcvS PartS
  rw [Ow_done]
  have hs : bigSep Finset.univ (Snd Av Bv c 42 42 42) = iprop((bigSep Finset.univ fun i : Tx => sendPay Av Bv c i) ∗ bigSep Finset.univ fun i : Tx => semVal (sendCell c i) 0) := by
    rw [← bigSep_sep']
    refine bigSep_congr fun i _ => ?_
    have := ix_lt i
    exact (if_neg (by omega)).trans ((if_neg (by omega)).trans (if_neg (by omega)))
  have hr : bigSep Finset.univ (Rcv Av Bv c 42) = iprop((bigSep Finset.univ fun i : Tx => semVal (recvCell c i) 0)
      ∗ bigSep Finset.univ fun i : Tx => owns (c : Thread nD τ) (dstM (peer i c) i) (kp i) (val Av Bv (peer i c) i)) := by
    rw [← bigSep_sep']
    refine bigSep_congr fun i _ => ?_
    have := wx_lt i
    exact if_neg (by omega)
  rw [hs, hr, tx_split (fun i : Tx => sendPay Av Bv c i), tx_split (fun i : Tx => owns (c : Thread nD τ) (dstM (peer i c) i) (kp i) (val Av Bv (peer i c) i)),
    show BarW (F := F) c 4 = semVal (barCell c) 0 from if_pos rfl]
  iintro ⟨⟨%K, %W, -, -, HO⟩, ⟨-, HB⟩, -, ⟨⟨HS1, HS2⟩, HS0⟩, ⟨HR0, HR1, HR2⟩, -, HI, ⟨%f, -, HP⟩, HU⟩
  isplitl [HO]; · iexists W; iexact HO
  isplitl [HB]; · iexact HB
  isplitl [HS0 HR0]
  · iapply (Entails.of_eq (sems_split c).symm)
    isplitl [HS0] <;> iassumption
  isplitr [HI HU]
  · unfold scr
    isplitl [HP]; · iexists f; iexact HP
    isplitl [HR1]
    · iapply (mono fun r => rb_back Av Bv c r) $$ HR1
    isplitl [HS1]
    · iapply (mono fun r => sb_back Av Bv c r) $$ HS1
    iapply (mono fun r => gb_back Av Bv c r)
    iapply (Entails.of_eq (bigSep_sep' Finset.univ _ _).symm)
    isplitl [HS2] <;> iassumption
  isplitl [HI] <;> iassumption

end Back

end Cert.KernelIdeal.Run
end
-- ==== Proof.Ghost.lean ====
/-
# The launch's resources

What the launch mints for the schedule's cells and how it is dealt out: each device gets the positions at its own cells and
the tokens of the duties it pays itself, which lie at the cells of the devices across from it; and the credit that the
others' debts leave it.
-/
module

public import proofs.«01_k».proof.Proof.Bufs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells and tokens -/

theorem kcell_injective : Function.Injective fun ck : Dev nD × Ck => kcell ck.1 ck.2 := fun a b h =>
  Prod.ext (kcell_inj h).1 (kcell_inj h).2
def allCells : Finset (GSem nD τ sig) := Finset.univ.map ⟨fun ck : Dev nD × Ck => kcell ck.1 ck.2, kcell_injective⟩

/-- A device's own duties: its barrier's three, and one at each of its transfers' cells. -/
abbrev Tk := Fin 3 ⊕ (Bool × Tx)
def tokOf (c : Dev nD) : Tk → GSem nD τ sig × ℕ × Fin 3
  | .inl t => (barCell c, 0, t)
  | .inr x => (kcell c (some x), 0, 0)
theorem tokOf_injective : Function.Injective fun cj : Dev nD × Tk => tokOf cj.1 cj.2 := by
  rintro ⟨c, j⟩ ⟨c', j'⟩ h
  rcases j with t | x <;> rcases j' with t' | x' <;> have h1 := kcell_inj (congrArg Prod.fst h)
  · have h2 : t = t' := congrArg (fun x : GSem nD τ sig × ℕ × Fin 3 => x.2.2) h
    exact congrArg₂ Prod.mk h1.1 (congrArg _ h2)
  · exact absurd h1.2 (fun h => by cases h)
  · exact absurd h1.2 (fun h => by cases h)
  · have h2 : x = x' := Option.some.inj h1.2
    exact congrArg₂ Prod.mk h1.1 (congrArg _ h2)
def allToks : Finset (GSem nD τ sig × ℕ × Fin 3) := Finset.univ.map ⟨fun cj : Dev nD × Tk => tokOf cj.1 cj.2, tokOf_injective⟩

def u₀ : UU :=
  (initOf (Pipeline.cells cfgs cellOf_inj) (Pipeline.launchToks cfgs cellOf_inj), initOf allCells allToks)

def ownToks (c : Dev nD) : sProp 𝕄 :=
  iprop((bigSep Finset.univ fun t : Fin 3 => dutyTok ER (barCell c) 0 t)
    ∗ (bigSep Finset.univ fun i : Tx => dutyTok ER (sendCell c i) 0 0) ∗ bigSep Finset.univ fun i : Tx => dutyTok ER (recvCell c i) 0 0)
def payToks (c : Dev nD) : sProp 𝕄 :=
  iprop((bigSep Finset.univ fun t : Fin 3 => dutyTok ER (barCell (px (mk t) c)) 0 t)
    ∗ (bigSep Finset.univ fun i : Tx => dutyTok ER (sendCell c i) 0 0) ∗ bigSep Finset.univ fun i : Tx => dutyTok ER (recvCell (peer i c) i) 0 0)

theorem two_split (Φ : Bool × Tx → sProp 𝕄) :
    bigSep Finset.univ Φ = iprop((bigSep Finset.univ fun i : Tx => Φ (false, i)) ∗ bigSep Finset.univ fun i : Tx => Φ (true, i)) := by
  rw [bigSep_univ_prod Φ, bigSep_univ_eq_bigSepL [false, true] (by decide) (by decide)]; rfl

theorem around {ι : Type} [Fintype ι] (e : ι → Dev nD ≃ Dev nD) (Φ : ι → Dev nD → sProp 𝕄) :
    (bigSep Finset.univ fun c => bigSep Finset.univ fun i => Φ i c) = bigSep Finset.univ fun c => bigSep Finset.univ fun i => Φ i (e i c) := by
  rw [bigSep_univ_comm, bigSep_congr fun i _ => bigSep_univ_equiv (e i) (Φ i), bigSep_univ_comm]

theorem toks_around : (bigSep Finset.univ fun c : Dev nD => (ownToks c : sProp 𝕄)) = bigSep Finset.univ fun c : Dev nD => payToks c := by
  unfold ownToks payToks
  rw [bigSep_sep', bigSep_sep', bigSep_sep', bigSep_sep',
    around (fun t => pxE (mk t)) (fun t c => (dutyTok ER (barCell c) 0 t : sProp 𝕄)),
    around (fun i => pxE (msk i)) (fun i c => (dutyTok ER (recvCell c i) 0 0 : sProp 𝕄))]
  rfl

section Fund
variable (Av : Dev nD → FVec F S1024x512 .f32) (Bv : Dev nD → FVec F S512x1024 .f32)

/-- What the launch deals a device at first, -/
def G (c : Dev nD) : sProp 𝕄 :=
  iprop((bigSep Finset.univ fun k : Ck => roundState ER (Rd (F := F) Av Bv) (kcell c k) 0)
    ∗ (bigSep Finset.univ fun k : Ck => iprop(atPos ER (kcell c k) 0 ∅ 0 ∗ reached ER (kcell c k) 0)) ∗ ownToks c)
/-- what of it stays with the device, -/
def lin (c : Dev nD) : sProp 𝕄 := iprop((bigSep Finset.univ fun k : Ck => atPos ER (kcell c k) 0 ∅ 0) ∗ payToks c)
/-- and that with the records of all the cells. -/
def G' (c : Dev nD) : sProp 𝕄 := iprop(∃ K, records Av Bv K ∗ lin c)

theorem fund : BI.own (ER (initOf allCells allToks)) ⊢ (|==> bigSep Finset.univ (G Av Bv) : sProp 𝕄) := by
  have hX (Φ : GSem nD τ sig → sProp 𝕄) : bigSep allCells Φ = bigSep Finset.univ fun c : Dev nD => bigSep Finset.univ fun k : Ck => Φ (kcell c k) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    unfold ownToks
    rw [bigSep_univ_sum]
    refine congrArg₂ (fun P Q => iprop(P ∗ Q)) rfl ?_
    exact two_split fun x => (dutyTok ER (kcell c (some x)) 0 0 : sProp 𝕄)
  iintro HX
  imod (Rounds.fund ER (Rd (F := F) Av Bv) allCells allToks) $$ HX with ⟨Hst, Hr, Hat, Htok⟩
  imodintro
  ihave Hst' := (Entails.of_eq (hX fun g => roundState ER (Rd (F := F) Av Bv) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: every transfer's two. -/
abbrev osem (x : Bool × Tx) : SemLoc sig := csem (some x)

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G Av Bv c)
      ⊢ |={Set.univ}=> iprop((bigSep Finset.univ fun k => iprop(∃ κ : ℕ, cellInv ER (Rd (F := F) Av Bv) κ (kcell c k)))
          ∗ (bigSep Finset.univ fun k => iprop(atPos ER (kcell c k) 0 ∅ 0 ∗ reached ER (kcell c k) 0)) ∗ ownToks c) := by
  rw [unscopedSems0_eq]
  unfold G
  iintro ⟨Hos, Hus, Hst, Hat, Htok⟩
  imod (show iprop((bigSep Finset.univ fun k : Ck => semVal (kcell c k) 0) ∗ bigSep Finset.univ fun k : Ck => roundState ER (Rd (F := F) Av Bv) (kcell c k) 0)
      ⊢ (|={Set.univ}=> bigSep Finset.univ fun k => iprop(∃ κ : ℕ, cellInv ER (Rd (F := F) Av Bv) κ (kcell c k)) : sProp 𝕄) from by
        rw [← bigSep_sep']
        exact (bigSep_mono fun k _ => (Rounds.body_intro ER (Rd (F := F) Av Bv) (kcell c k)).trans inv_alloc).trans (bigSep_fupd _ _)) $$ [Hos Hus Hst] with Hinv
  · isplitr [Hst]
    · iapply (Entails.of_eq (opt_split fun k : Ck => (semVal (kcell c k) 0 : sProp 𝕄)).symm)
      isplitl [Hus]; · iexact Hus
      iapply (Entails.of_eq (show (Pipeline.ownSems0 osem c : sProp 𝕄) = bigSep Finset.univ fun i : Bool × Tx => (semVal (kcell c (some i)) 0 : sProp 𝕄) from rfl)) $$ Hos
    iexact Hst
  imodintro
  isplitl [Hinv]; · iexact Hinv
  isplitl [Hat]; · iexact Hat
  iexact Htok

theorem with_records {R : sProp 𝕄} [BI.Persistent R] {Φ Ψ : Dev nD → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k => iprop(∃ κ : ℕ, cellInv ER (Rd (F := F) Av Bv) κ (kcell c k)))
          ∗ (bigSep Finset.univ fun k => iprop(atPos ER (kcell c k) 0 ∅ 0 ∗ reached ER (kcell c k) 0)) ∗ ownToks c) : sProp 𝕄)
      ⊢ bigSep Finset.univ (G' Av Bv) := by
  rw [bigSep_sep', bigSep_sep', ← bigSep_univ_prod (fun ck : Dev nD × Ck => iprop(∃ κ : ℕ, cellInv ER (Rd (F := F) Av Bv) κ (kcell ck.1 ck.2))),
    bigSep_congr (s := Finset.univ) (fun (c : Dev nD) _ => bigSep_sep' Finset.univ (fun k : Ck => (atPos ER (kcell c k) 0 ∅ 0 : sProp 𝕄)) (fun k => reached ER (kcell c k) 0)),
    bigSep_sep', ← bigSep_univ_prod (fun ck : Dev nD × Ck => (reached ER (kcell ck.1 ck.2) 0 : sProp 𝕄)), toks_around]
  iintro ⟨HI, ⟨Hat, #HR⟩, Htok⟩
  ihave HK := (BI.bigSep_exists_pi Finset.univ (fun (ck : Dev nD × Ck) (κ : ℕ) => (cellInv ER (Rd (F := F) Av Bv) κ (kcell ck.1 ck.2) : sProp 𝕄))) $$ HI
  icases HK with ⟨%K, #HI⟩
  iapply (with_records (R := records Av Bv K) (Φ := lin) fun c => show iprop(records Av Bv K ∗ lin c) ⊢ G' Av Bv c from by
    unfold G'
    iintro H; iexists K; iexact H)
  isplitr
  · unfold records; isplitl; · iexact HI
    iexact HR
  · iapply (Entails.of_eq (bigSep_sep' Finset.univ (fun c : Dev nD => bigSep Finset.univ fun k : Ck => (atPos ER (kcell c k) 0 ∅ 0 : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G Av Bv c) : sProp 𝕄)
    ⊢ |={Set.univ}=> bigSep Finset.univ (G' Av Bv) :=
  ((bigSep_mono fun c _ => core_alloc Av Bv c).trans (bigSep_fupd _ _)).trans (BI.fupd_mono (regroup Av Bv))

end Fund

/-! ## Credit -/

/-- What a device owes when it starts. -/
def O₀ (c : Dev nD) : CellTallies nD τ sig Unit := Ow c 0 0

theorem sum_at {ι : Type} [Fintype ι] (f : ι → CellTallies nD τ sig Unit) (g : GSem nD τ sig) (u : Unit) : (∑ j, f j) g u = ∑ j, f j g u := by
  rw [Finset.sum_apply, Finsupp.finset_sum_apply]

theorem owed_at (c d : Dev nD) (k : Ck) :
    O₀ c (kcell d k) () = (∑ t : Fin 3, if px (mk t) c = d ∧ none = k then 1 else 0) + ∑ i : Tx, if peer i c = d ∧ some (true, i) = k then crd i else 0 := by
  unfold O₀ Ow
  rw [Pi.add_apply, Finsupp.add_apply, sum_at, sum_at]
  have h (a : Dev nD) (k' : Ck) (n : ℕ) : (tallyAt (kcell a k') () n : CellTallies nD τ sig Unit) (kcell d k) () = if a = d ∧ k' = k then n else 0 := by
    rw [tallyAt_apply]
    refine if_congr ⟨fun h => ⟨(kcell_inj h.1).1.symm, (kcell_inj h.1).2.symm⟩, fun h => ⟨by rw [h.1, h.2], rfl⟩⟩ rfl rfl
  refine congrArg₂ (· + ·) (Finset.sum_congr rfl fun t _ => ?_) (Finset.sum_congr rfl fun i _ => ?_)
  · rw [if_pos (Nat.zero_le _)]; exact h _ none 1
  · rw [if_pos (Nat.zero_le _)]; exact h _ (some (true, i)) (crd i)

theorem sum_one (e : Dev nD ≃ Dev nD) (d : Dev nD) (P : Prop) [Decidable P] (n : ℕ) : (∑ c, if e c = d ∧ P then n else 0) = if P then n else 0 := by
  rw [Fintype.sum_eq_single (e.symm d) fun c hc => if_neg fun h => hc (by rw [← h.1, Equiv.symm_apply_apply])]
  exact if_congr ⟨fun h => h.2, fun h => ⟨e.apply_symm_apply d, h⟩⟩ rfl rfl

theorem one_bar (t : Fin 3) (d : Dev nD) (P : Prop) [Decidable P] : (∑ c, if px (mk t) c = d ∧ P then 1 else 0) = if P then 1 else 0 := sum_one (pxE (mk t)) d P 1
theorem one_recv (i : Tx) (d : Dev nD) (P : Prop) [Decidable P] : (∑ c, if peer i c = d ∧ P then crd i else 0) = if P then crd i else 0 := sum_one (pxE (msk i)) d P (crd i)

/-- What is owed at a cell altogether. -/
def credOf : Ck → ℕ
  | none => 3
  | some (false, _) => 0
  | some (true, i) => crd i

theorem launch_at (d : Dev nD) (k : Ck) :
    tallyOn (kcell d k) (launchCredit (Pipeline.owing O₀) 0 (kcell d k)) = (tallyAt (kcell d k) () (credOf k) : CellTallies nD τ sig Unit) := by
  unfold tallyAt; refine congrArg _ (Finsupp.ext fun u => ?_); cases u
  rw [Pipeline.launchCredit_owing, Finsupp.single_eq_same, Finset.sum_congr rfl fun c _ => owed_at c d k, Finset.sum_add_distrib, Finset.sum_comm, Finset.sum_comm (t := (Finset.univ : Finset Tx)),
    Finset.sum_congr rfl fun t _ => one_bar t d (none = k),
    Finset.sum_congr rfl fun i _ => one_recv i d (some (true, i) = k)]
  rcases k with _ | ⟨_ | _, i⟩
  · rw [Finset.sum_eq_zero (s := (Finset.univ : Finset Tx)) fun i _ => if_neg fun h => by cases h]; rfl
  · rw [Finset.sum_eq_zero (s := (Finset.univ : Finset Tx)) fun i _ => if_neg fun h => by cases h]; rfl
  · rw [Fintype.sum_eq_single i fun j hj => if_neg fun h => hj (Prod.ext_iff.mp (Option.some.inj h)).2, if_pos rfl]
    exact (congrArg (· + crd i) (Finset.sum_eq_zero fun (t : Fin 3) _ => if_neg fun h => by cases h)).trans (Nat.zero_add _)

theorem creds (c : Dev nD) :
    (Pipeline.launchCred O₀ c : sProp 𝕄) ⊢ iprop(cred (tallyAt (barCell c) () 3) ∗ bigSep Finset.univ fun i : Tx => cred (tallyAt (recvCell c i) () (crd i))) := by
  unfold Pipeline.launchCred
  refine (bigSep_subset (Finset.subset_univ (Finset.univ.map ⟨csem, csem_inj⟩))).trans ?_
  rw [bigSep_map]
  refine (Entails.of_eq (bigSep_congr (Ψ := fun k : Ck => (cred (tallyAt (kcell c k) () (credOf k)) : sProp 𝕄)) fun k _ => congrArg cred (launch_at c k))).trans ?_
  rw [opt_split, two_split]
  exact sep_mono_right sep_elim_right

/-! ## The start -/

section Start
variable (Av : Dev nD → FVec F S1024x512 .f32) (Bv : Dev nD → FVec F S512x1024 .f32)

def start (c : Dev nD) : sProp 𝕄 :=
  iprop(G' Av Bv c ∗ cred (tallyAt (barCell c) () 3) ∗ (bigSep Finset.univ fun i : Tx => cred (tallyAt (recvCell c i) () (crd i))) ∗ levAts L lv)

theorem st_start (c : Dev nD) (W) (f : FVec F S1024x1024 .f32) :
    iprop(start Av Bv c ∗ scr (F := F) c ∗ owes (c : Thread nD τ) (O₀ c) W ∗ InS Av Bv c ∗ (((c : Thread nD τ).loc cc0_stg2_0) ↦{fullShare} f))
      ⊢ St Av Bv c 0 0 0 0 0 0 0 0 0 := by
  refine (sep_mono_right (sep_mono_left (scr_cut c))).trans ?_
  unfold start G' lin payToks bufs St Gh O₀ PartS OutS LndS SndS RcvS
  rw [opt_split, two_split, emps (A := Lnd (F := F) c 0 0) fun i => if_neg fun h => by omega]
  have hB : bigSep Finset.univ (BarT (F := F) c 0) = iprop((bigSep Finset.univ fun t : Fin 3 => dutyTok ER (barCell (px (mk t) c)) 0 t) ∗ bigSep Finset.univ fun t : Fin 3 => barPay (px (mk t) c) t) := by
    rw [← bigSep_sep']; exact bigSep_congr fun t _ => if_pos (Nat.zero_le _)
  have hS : bigSep Finset.univ (Snd Av Bv c 0 0 0) = iprop(bigSep Finset.univ (raw (F := F) c) ∗ (bigSep Finset.univ fun i : Tx => atPos ER (sendCell c i) 0 ∅ 0)
      ∗ (bigSep Finset.univ fun i : Tx => dutyTok ER (sendCell c i) 0 0) ∗ bigSep Finset.univ fun i : Tx => dutyTok ER (recvCell (peer i c) i) 0 0) := by
    rw [← bigSep_sep', ← bigSep_sep', ← bigSep_sep']; exact bigSep_congr fun t _ => if_pos (Nat.zero_le _)
  have hR : bigSep Finset.univ (Rcv Av Bv c 0) = iprop((bigSep Finset.univ fun i : Tx => atPos ER (recvCell c i) 0 ∅ 0) ∗ bigSep Finset.univ fun i : Tx => cred (tallyAt (recvCell c i) () (crd i))) := by
    rw [← bigSep_sep']; exact bigSep_congr fun t _ => if_pos (Nat.zero_le _)
  rw [hB, hS, hR, show BarW (F := F) c 0 = iprop(atPos ER (barCell c) 0 ∅ 0 ∗ cred (tallyAt (barCell c) () 3)) from if_neg (by decide)]
  iintro ⟨⟨⟨%K, Hrec, ⟨HaB, HaS, HaR⟩, Ht, Hts, Htr⟩, HcB, HcR, Hlev⟩, ⟨⟨%p, Hp⟩, Hpay, Hraw, Hown⟩, HO, HI, Hf⟩
  isplitl [Hrec HO Hlev]
  · iexists K; iexists W
    isplitl [Hrec]; · iexact Hrec
    isplitl [Hlev] <;> iassumption
  isplitl [Ht Hpay HaB HcB]
  · isplitl [Ht Hpay]
    · isplitl [Ht] <;> iassumption
    isplitl [HaB] <;> iassumption
  isplitr; · iempintro
  isplitl [Hraw HaS Hts Htr]
  · isplitl [Hraw]; · iexact Hraw
    isplitl [HaS]; · iexact HaS
    isplitl [Hts] <;> iassumption
  isplitl [HaR HcR]
  · isplitl [HaR] <;> iassumption
  isplitl [Hown]; · iexact Hown
  isplitl [HI]; · iexact HI
  isplitl [Hp]
  · iexists p
    isplitr; · ipureintro; exact fun r x h => absurd h (Nat.not_lt_zero _)
    iexact Hp
  iexists f
  isplitr; · ipureintro; exact fun r x h => absurd h (Nat.not_lt_zero _)
  iexact Hf

end Start

end Cert.KernelIdeal.Run
end
-- ==== Proof.Comm.lean ====
/-
# The signals, the transfers and the waits

What each of the program's protocol operations does to the device's state: a signal, the barrier's wait, a transfer's
issue, the wait for an arrival, the wait for a transfer of its own, and the staging of what a transfer carries.
-/
module

public import proofs.«01_k».proof.Proof.Steps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- How many transfers must have been issued before an arrival of a level is waited for. -/
def thr : ℕ → ℕ
  | 2 => 12 | 3 => 18 | 4 => 21 | 5 => 30 | 6 => 30 | 7 => 36 | _ => 42
theorem thr_ok : ∀ i j : Tx, thr (lvl i) ≤ ix j → lvl i < lvl j := by decide +kernel
theorem ixG1 : ∀ r : Fin 3, ix (true, r, 1) = ix (true, r, 0) + 1 := by decide
theorem ixG3 : ∀ r : Fin 3, ix (true, r, 3) = ix (true, r, 1) + 1 := by decide
theorem ixG4 : ∀ r : Fin 3, ix (true, r, 4) = ix (true, r, 2) + 1 := by decide
theorem lvl_bar : ∀ i : Tx, 1 < lvl i := by decide +kernel

section St
variable (Av : Dev nD → FVec F S1024x512 .f32) (Bv : Dev nD → FVec F S512x1024 .f32) (c : Dev nD)
variable {α : Type} {b d q n v w a o g : ℕ}

/-! ## The barrier -/

theorem mem_bar (t : Fin 3) : t ∈ (Rd (F := F) Av Bv).duties (barCell c) 0 := by rw [duties_bar]; exact Finset.mem_univ _

theorem st_signal (t : Fin 3) {b' : ℕ} {dv : Dev nD} {sem : Sem sig} {k' : ℕ} {k : PUnit → TP F α} {Q : α → sProp 𝕄}
    (hdv : dv = px (mk t) c) (hs : sem = barS) (hk' : k' = 1) (hb : t.val = b) (hb' : b + 1 = b')
    (h : St Av Bv c b' d q n v w a o g ⊢ WP c (k ⟨⟩) Q) :
    St Av Bv c b d q n v w a o g ⊢ WP c (.op (.semSignal (Dev.tc dv) sem k') k) Q := by
  subst hdv; subst hs; subst hk'; subst hb; subst hb'
  unfold St Gh at *
  have ht := t.isLt
  rw [show LndS (F := F) c (t.val + 1) n = LndS (F := F) c t.val n from bigSep_congr fun i _ =>
      (if_neg (fun h => by omega)).trans (if_neg (fun h => by omega)).symm,
    show BarW (F := F) c (t.val + 1) = BarW (F := F) c t.val from (if_neg (by omega)).trans (if_neg (by omega)).symm] at h
  iintro ⟨⟨%K, %W, #HR, #HL, HO⟩, ⟨HT, HW⟩, HX⟩
  ihave H := (bar_sig (F := F) c t) $$ HT
  icases H with ⟨⟨Htok, Hpay⟩, HT⟩
  iapply (Rounds.wp_signal 𝒱₀ ER (Rd Av Bv) (c : Thread nD τ) none (dst := ((px (mk t) c : Dev nD) : Thread nD τ)) (κ := K (px (mk t) c, none))
      (r := 0) (d := t) (mem_bar Av Bv (px (mk t) c) t) (amount_bar Av Bv (px (mk t) c) t) () (Ow c (t.val + 1) n) (Ow_sig c t n)) $$ [HO Htok Hpay]
  · isplitr; · iapply (rec_inv Av Bv K (px (mk t) c) none); iexact HR
    isplitl [HO]; · iexact HO
    isplitl [Htok]; · iexact Htok
    isplitl [Hpay]; · iapply (show barPay (F := F) (px (mk t) c) t ⊢ (Rd Av Bv).payload (((px (mk t) c : Dev nD) : Thread nD τ), .reg barS) 0 t from Entails.of_eq (payload_bar Av Bv (px (mk t) c) t).symm); iexact Hpay
    iapply (rec_reached Av Bv K (px (mk t) c) none); iexact HR
  iintro HO
  iapply h
  isplitl [HO]
  · iexists K; iexists W
    isplitr; · iexact HR
    isplitr; · iexact HL
    iexact HO
  isplitl [HT HW]; · isplitl [HT] <;> iassumption
  iexact HX

theorem rest_bar' : bigSep ((Rd (F := F) Av Bv).duties ((c : Thread nD τ), .reg barS) 0 \ ∅) (fun d => (Rd (F := F) Av Bv).payload ((c : Thread nD τ), .reg barS) 0 d) = LndS (F := F) c 4 0 :=
  (rest_bar Av Bv c).trans (bar_all c)

theorem st_barwait {sem : Sem sig} {k' : ℤ} {k : PUnit → TP F α} {Q : α → sProp 𝕄} (hs : sem = barS) (hk' : k' = 3)
    (h : St Av Bv c 4 d q 0 v w a o g ⊢ WP c (k ⟨⟩) Q) :
    St Av Bv c 3 d q 0 v w a o g ⊢ WP c (.op (.semWait sem k') k) Q := by
  subst hs; subst hk'
  unfold St Gh at *
  iintro ⟨⟨%K, %W, #HR, #HL, HO⟩, ⟨HT, HW⟩, HLn, HX⟩
  ihave HW := (Entails.of_eq (show BarW (F := F) c 3 = iprop(atPos ER (barCell c) 0 ∅ 0 ∗ cred (tallyAt (barCell c) () 3)) from if_neg (by omega))) $$ HW
  icases HW with ⟨Hat, Hc⟩
  iapply (Rounds.wp_wait_rest_token 𝒱₀ ER (Rd Av Bv) (c : Thread nD τ) none (κ := K (c, none))
      (wpE_semWait_eq 𝒱₀ (c : Thread nD τ) none Set.univ) (Set.mem_univ _) () (O := Ow c 3 0) (W := W) (R := 0) (m := 0) (T := ∅)
      (show 0 + 3 = (Rd Av Bv).expect (barCell c) 0 from (expect_bar Av Bv c).symm)) $$ [Hc HO Hat]
  · isplitr; · iapply (rec_inv Av Bv K c none); iexact HR
    isplitl [Hc]; · iexact Hc
    isplitl [HO]; · iexact HO
    isplitr
    · iapply (mayWait c (.reg barS) 3 0 1 (by rw [show undo (.reg barS) = some none from undo_csem none]; exact Nat.le_refl _) (fun h => by omega) (fun i _ => lvl_bar i)); iexact HL
    iexact Hat
  iintro ⟨HO, Hat, -, Hpay⟩
  ihave Hp := (Entails.of_eq (rest_bar' Av Bv c)) $$ Hpay
  imod (Rounds.cell_close ER (Rd Av Bv) (Set.mem_univ (K (c, none))) (fun h => h) (R := 0 + 1) (duties_later Av Bv (barCell c))) $$ [Hat] with Hz
  · isplitr; · iapply (rec_inv Av Bv K c none); iexact HR
    iexact Hat
  iapply h
  isplitl [HO]
  · iexists K; iexists (insert (SemLoc.reg barS, ()) W)
    isplitr; · iexact HR
    isplitr; · iexact HL
    rw [← Ow_bar]; iexact HO
  isplitl [HT Hz]
  · isplitl [HT]
    · rw [show BarT (F := F) c 4 = BarT (F := F) c 3 from funext fun t => (if_neg (by have := t.isLt; omega)).trans (if_neg (by have := t.isLt; omega)).symm]
      iexact HT
    · rw [show BarW (F := F) c 4 = semVal (barCell c) 0 from if_pos rfl]; iexact Hz
  isplitl [Hp]; · iexact Hp
  iexact HX

/-! ## Transfers -/

theorem rest_recv' (i : Tx) : bigSep ((Rd (F := F) Av Bv).duties ((c : Thread nD τ), .dma (recvQ i)) 0 \ ∅) (fun d => (Rd (F := F) Av Bv).payload ((c : Thread nD τ), .dma (recvQ i)) 0 d) = recvPay Av Bv c i :=
  rest_recv Av Bv c i
theorem rest_send' (i : Tx) : bigSep ((Rd (F := F) Av Bv).duties ((c : Thread nD τ), .dma (sendQ i)) 0 \ ∅) (fun d => (Rd (F := F) Av Bv).payload ((c : Thread nD τ), .dma (sendQ i)) 0 d) = sendPay Av Bv c i :=
  rest_send Av Bv c i

theorem mem_xfer (i : Tx) (b : Bool) : (0 : Fin 3) ∈ (Rd (F := F) Av Bv).duties (kcell c (some (b, i))) 0 := by
  rw [duties_xfer]; exact Finset.mem_singleton_self _

theorem st_send (i : Tx) {n' : ℕ} {dv : Dev nD} {src dst : Memref sig .tc .vmem (SC i.2.1) .bf16} {sS sem : DmaSem sig} {hsc : dst.view.ref.isScScratch = false}
    {hsrc : src.view.WordExact} {hdst : dst.view.WordExact} {hsem : DmaTarget.Typed .vmem (.dma sem) (.remote (Dev.tc dv) dst (.dma sS) hsc)}
    {k : PUnit → TP F α} {Q : α → sProp 𝕄}
    (hdv : dv = peer i c) (hs : src = srcM c i) (hd : dst = dstM c i) (h1 : sS = sendQ i) (h2 : sem = recvQ i)
    (hn : ix i = n) (hn' : n + 1 = n') (hq : n < q) (hv : v ≤ n)
    (h : St Av Bv c 4 d q n' v w a o g ⊢ WP c (k ⟨⟩) Q) :
    St Av Bv c 4 d q n v w a o g ⊢ WP c (.op (.enqueueDma src (.remote (Dev.tc dv) dst (.dma sS) hsc) (.dma sem) hsrc hdst hsem) k) Q := by
  subst hdv; subst hs; subst hd; subst h1; subst h2; subst hn; subst hn'
  unfold St Gh at *
  iintro ⟨⟨%K, %W, #HR, #HL, HO⟩, HB, HLn, HS, HX⟩
  ihave H := (lnd_send (F := F) c i) $$ HLn
  icases H with ⟨Hl, HLn⟩
  ihave H := (snd_send Av Bv c i q v hq hv) $$ HS
  unfold toks
  icases H with ⟨⟨Hpay, Hat, Ht1, Ht2⟩, HS⟩
  ihave Hl := (Entails.of_eq (show land (F := F) c i = iprop(∃ X : Vec F (SC i.2.1) .bf16, owns ((peer i c : Dev nD) : Thread nD τ) (dstM c i) fullShare X) from rfl)) $$ Hl
  icases Hl with ⟨%X, Hl⟩
  ihave Hl := (Entails.of_eq (show owns ((peer i c : Dev nD) : Thread nD τ) (dstM c i) fullShare X = iprop(∃ f, ⌜(dstM c i).view.read (Elt F) f = X⌝ ∗ ((dstM c i).view.loc ((peer i c : Dev nD) : Thread nD τ) ↦[(dstM c i).view.set]{fullShare} f)) from rfl)) $$ Hl
  ihave Hpay := (Entails.of_eq (show sendPay Av Bv c i = iprop(∃ f, ⌜(srcM c i).view.read (Elt F) f = val Av Bv c i⌝ ∗ ((srcM c i).view.loc (c : Thread nD τ) ↦[(srcM c i).view.set]{shr i} f)) from rfl)) $$ Hpay
  icases Hl with ⟨%fd, -, Hl⟩
  icases Hpay with ⟨%fs, %hfs, Hpay⟩
  iapply (Rounds.wp_send_pointsTo 𝒱₀ ER (Rd Av Bv) (c : Thread nD τ) none (c' := ((peer i c : Dev nD) : Thread nD τ)) (src := srcM c i) (dst := dstM c i) (sS := .dma (sendQ i)) (sem := .dma (recvQ i))
      (κ₁ := K (c, some (false, i))) (κ₂ := K (peer i c, some (true, i))) (r₁ := 0) (r₂ := 0) (d₁ := 0) (d₂ := 0) (fs := fs) (fd := fd)
      (mem_xfer Av Bv c i false) (mem_xfer Av Bv (peer i c) i true) () () (crd i) (crd_eq c i)
      (show (Rd Av Bv).amount ((c : Thread nD τ), .dma (sendQ i)) 0 0 = crd i from amount_xfer Av Bv c i false 0) (show (Rd Av Bv).amount (((peer i c : Dev nD) : Thread nD τ), .dma (recvQ i)) 0 0 = crd i from amount_xfer Av Bv (peer i c) i true 0) (Ow c 4 (ix i + 1)) (Ow_send c i 4) (W := W)
      (by
        refine BIBase.Entails.trans ?_ (Entails.of_eq (payload_send Av Bv c i 0).symm)
        unfold sendPay
        rw [← hfs]; exact owns_intro (c : Thread nD τ) (srcM c i) (shr i) fs)
      (by
        refine BIBase.Entails.trans ?_ (Entails.of_eq (payload_recv Av Bv (peer i c) i 0).symm)
        unfold recvPay
        rw [peer_peer, ← hfs]
        refine (owns_intro ((peer i c : Dev nD) : Thread nD τ) (dstM c i) fullShare _).trans (Entails.of_eq ?_)
        rw [View.read_write_univ])) $$ [Hpay Hl HO Ht1 Ht2]
  · isplitr; · iapply (rec_inv Av Bv K c (some (false, i))); iexact HR
    isplitr; · iapply (rec_inv Av Bv K (peer i c) (some (true, i))); iexact HR
    isplitl [Hpay]; · iexact Hpay
    isplitl [Hl]; · iexact Hl
    isplitl [HO]; · iexact HO
    isplitl [Ht1]; · iexact Ht1
    isplitr; · iapply (rec_reached Av Bv K c (some (false, i))); iexact HR
    isplitl [Ht2]; · iexact Ht2
    iapply (rec_reached Av Bv K (peer i c) (some (true, i))); iexact HR
  iintro ⟨Hc, HO⟩
  iapply h
  isplitl [HO]
  · iexists K; iexists W
    isplitr; · iexact HR
    isplitr; · iexact HL
    iexact HO
  isplitl [HB]; · iexact HB
  isplitl [HLn]; · iexact HLn
  isplitl [HS Hat Hc]
  · iapply HS
    isplitl [Hat]; · iexact Hat
    iexact Hc
  iexact HX

/-! ## Waits -/

theorem wait_recv (i : Tx) {sem : DmaSem sig} {src dst : Memref sig .tc .vmem (SC i.2.1) .bf16} {hsrc : src.view.WordExact} {hdst : dst.view.WordExact}
    {k : PUnit → TP F α} {Q : α → sProp 𝕄} (hs : sem = recvQ i) (hcr : dst.view.dmaCredit = crd i) (hl : thr (lvl i) ≤ n) :
    iprop(Gh Av Bv c 4 n ∗ atPos ER (recvCell c i) 0 ∅ 0 ∗ cred (tallyAt (recvCell c i) () (crd i)))
      ⊢ iprop(((Gh Av Bv c 4 n ∗ semVal (recvCell c i) 0 ∗ recvPay Av Bv c i) -∗ WP c (k ⟨⟩) Q) -∗ WP c (.op (.waitDma2 sem src dst hsrc hdst) k) Q) := by
  subst hs
  unfold Gh
  iintro ⟨⟨%K, %W, #HR, #HL, HO⟩, Hat, Hc⟩ Hk
  iapply (Rounds.wp_wait_rest_token 𝒱₀ ER (Rd Av Bv) (c : Thread nD τ) none (κ := K (c, some (true, i)))
      (wpE_waitDma2_eq 𝒱₀ (c : Thread nD τ) none Set.univ) (Set.mem_univ _) () (O := Ow c 4 n) (W := W) (R := 0) (m := 0) (T := ∅)
      (by rw [Nat.zero_add, hcr]; exact (expect_xfer Av Bv c i true).symm)) $$ [Hc HO Hat]
  · isplitr; · iapply (rec_inv Av Bv K c (some (true, i))); iexact HR
    isplitl [Hc]; · rw [hcr]; iexact Hc
    isplitl [HO]; · iexact HO
    isplitr
    · iapply (mayWait c (.dma (recvQ i)) 4 n (lvl i) (by rw [show undo (.dma (recvQ i)) = some (some (true, i)) from undo_csem (some (true, i))]; exact Nat.le_refl _)
        (fun h => by omega) (fun j hj => thr_ok i j (Nat.le_trans hl hj))); iexact HL
    iexact Hat
  iintro ⟨HO, Hat, -, Hpay⟩
  ihave Hp := (Entails.of_eq (rest_recv' Av Bv c i)) $$ Hpay
  imod (Rounds.cell_close ER (Rd Av Bv) (Set.mem_univ (K (c, some (true, i)))) (fun h => h) (R := 0 + 1) (duties_later Av Bv (recvCell c i))) $$ [Hat] with Hz
  · isplitr; · iapply (rec_inv Av Bv K c (some (true, i))); iexact HR
    iexact Hat
  iapply Hk
  isplitl [HO]
  · iexists K; iexists _
    isplitr; · iexact HR
    isplitr; · iexact HL
    iexact HO
  isplitl [Hz] <;> iassumption

theorem st_wait (i : Tx) {w' : ℕ} {sem : DmaSem sig} {src dst : Memref sig .tc .vmem (SC i.2.1) .bf16} {hsrc : src.view.WordExact} {hdst : dst.view.WordExact}
    {k : PUnit → TP F α} {Q : α → sProp 𝕄} (hs : sem = recvQ i) (hcr : dst.view.dmaCredit = crd i) (hl : thr (lvl i) ≤ n)
    (hw : wx i = w) (hw' : w + 1 = w') (hkp : kp i = fullShare)
    (h : St Av Bv c 4 d q n v w' a o g ⊢ WP c (k ⟨⟩) Q) :
    St Av Bv c 4 d q n v w a o g ⊢ WP c (.op (.waitDma2 sem src dst hsrc hdst) k) Q := by
  subst hw; subst hw'
  unfold St at *
  iintro ⟨HG, HB, HLn, HS, HV, HX⟩
  ihave H := (rcv_wait Av Bv c i) $$ HV
  icases H with ⟨⟨Hat, Hc⟩, HV⟩
  iapply (wait_recv Av Bv c i hs hcr hl) $$ [HG Hat Hc]
  · isplitl [HG]; · iexact HG
    isplitl [Hat] <;> iassumption
  iintro ⟨HG, Hz, Hp⟩
  iapply h
  isplitl [HG]; · iexact HG
  isplitl [HB]; · iexact HB
  isplitl [HLn]; · iexact HLn
  isplitl [HS]; · iexact HS
  isplitl [HV Hz Hp]
  · iapply HV
    isplitl [Hz]; · iexact Hz
    rw [hkp]; unfold recvPay; iexact Hp
  iexact HX

/-- The rows that arrive by `i` are those that `i'` then carries on. -/
def Fwd (i i' : Tx) : Prop := i.1 = true ∧ i'.1 = true ∧ i.2.1 = i'.2.1 ∧ lab i' = lab i ^^^ msk i
instance (i i' : Tx) : Decidable (Fwd i i') := by unfold Fwd; infer_instance
theorem fwd2 : ∀ r, Fwd (true, r, 0) (true, r, 2) := by decide
theorem fwd4 : ∀ r, Fwd (true, r, 0) (true, r, 4) := by decide

theorem px_xor (m m' : Fin 8) (c : Dev nD) : px m (px m' c) = px (m ^^^ m') c := by revert m m' c; decide +kernel

theorem sendPay_fwd (r : Fin 3) (j j' : Fin 7) (hf : Fwd (true, r, j) (true, r, j')) (s : PosShare TreeShare) (hs : shr (true, r, j') = s) :
    owns (c : Thread nD τ) (dstM (peer (true, r, j) c) (true, r, j)) s (val Av Bv (peer (true, r, j) c) (true, r, j)) ⊢ sendPay Av Bv c (true, r, j') := by
  subst hs
  have e : px (lab (true, r, j)) (peer (true, r, j) c) = px (lab (true, r, j')) c := by
    rw [hf.2.2.2]; exact px_xor _ _ c
  unfold sendPay
  show owns (Val := Elt F) (e := .bf16) (c : Thread nD τ) (gch r (px (lab (true, r, j)) (peer (true, r, j) c))) _ (gval Av Bv (px (lab (true, r, j)) (peer (true, r, j) c)) r) ⊢ owns (Val := Elt F) (e := .bf16) (c : Thread nD τ) (gch r (px (lab (true, r, j')) c)) _ (gval Av Bv (px (lab (true, r, j')) c) r)
  rw [e]

theorem snd_stageG (r : Fin 3) (j : Fin 7) (n v : ℕ) (hn : n ≤ ix (true, r, j)) :
    iprop(SndS Av Bv c (ix (true, r, j)) n v ∗ sendPay Av Bv c (true, r, j)) ⊢ SndS Av Bv c (ix (true, r, j) + 1) n v := by
  iintro ⟨HS, Hp⟩
  ihave H := (snd_stage Av Bv c (true, r, j) n v hn) $$ HS
  icases H with ⟨-, H⟩
  iapply H; iexact Hp

/-- The wait for rows that one transfer carries on. -/
theorem st_wait1 (r : Fin 3) (j j' : Fin 7) {w' q' : ℕ} {sem : DmaSem sig} {src dst : Memref sig .tc .vmem (SC r) .bf16} {hsrc : src.view.WordExact} {hdst : dst.view.WordExact}
    {k : PUnit → TP F α} {Q : α → sProp 𝕄} (hs : sem = recvQ (true, r, j)) (hcr : dst.view.dmaCredit = crd (true, r, j)) (hl : thr (lvl (true, r, j)) ≤ n)
    (hw : wx (true, r, j) = w) (hw' : w + 1 = w') (hkp : kp (true, r, j) = fullShare.left) (hf : Fwd (true, r, j) (true, r, j'))
    (hsh : shr (true, r, j') = fullShare.right) (hq : ix (true, r, j') = q) (hq' : q + 1 = q') (hnq : n ≤ q)
    (h : St Av Bv c 4 d q' n v w' a o g ⊢ WP c (k ⟨⟩) Q) :
    St Av Bv c 4 d q n v w a o g ⊢ WP c (.op (.waitDma2 sem src dst hsrc hdst) k) Q := by
  subst hw; subst hw'; subst hq; subst hq'
  unfold St at *
  iintro ⟨HG, HB, HLn, HS, HV, HX⟩
  ihave H := (rcv_wait Av Bv c (true, r, j)) $$ HV
  icases H with ⟨⟨Hat, Hc⟩, HV⟩
  iapply (wait_recv Av Bv c (true, r, j) hs hcr hl) $$ [HG Hat Hc]
  · isplitl [HG]; · iexact HG
    isplitl [Hat] <;> iassumption
  iintro ⟨HG, Hz, Hp⟩
  unfold recvPay
  ihave H := (owns_halves (c : Thread nD τ) (dstM (peer (true, r, j) c) (true, r, j)) fullShare (val Av Bv (peer (true, r, j) c) (true, r, j))).1 $$ Hp
  icases H with ⟨Hl, Hr⟩
  iapply h
  isplitl [HG]; · iexact HG
  isplitl [HB]; · iexact HB
  isplitl [HLn]; · iexact HLn
  isplitl [HS Hr]
  · iapply (snd_stageG Av Bv c r j' n v hnq)
    isplitl [HS]; · iexact HS
    iapply (sendPay_fwd Av Bv c r j j' hf _ hsh); iexact Hr
  isplitl [HV Hz Hl]
  · iapply HV
    isplitl [Hz]; · iexact Hz
    rw [hkp]; iexact Hl
  iexact HX

/-- The wait for rows that two transfers carry on. -/
theorem st_wait2 (r : Fin 3) {w' q' : ℕ} {sem : DmaSem sig} {src dst : Memref sig .tc .vmem (SC r) .bf16} {hsrc : src.view.WordExact} {hdst : dst.view.WordExact}
    {k : PUnit → TP F α} {Q : α → sProp 𝕄} (hs : sem = recvQ (true, r, 0)) (hcr : dst.view.dmaCredit = crd (true, r, 0)) (hl : thr 5 ≤ n)
    (hw : wx (true, r, 0) = w) (hw' : w + 1 = w') (hq : ix (true, r, 2) = q) (hq' : q + 2 = q') (hnq : n ≤ q)
    (h : St Av Bv c 4 d q' n v w' a o g ⊢ WP c (k ⟨⟩) Q) :
    St Av Bv c 4 d q n v w a o g ⊢ WP c (.op (.waitDma2 sem src dst hsrc hdst) k) Q := by
  have e4 : ix (true, r, 4) = ix (true, r, 2) + 1 := ixG4 r
  have f2 : Fwd (true, r, 0) (true, r, 2) := fwd2 r
  have f4 : Fwd (true, r, 0) (true, r, 4) := fwd4 r
  subst hw; subst hw'; subst hq; subst hq'
  unfold St at *
  iintro ⟨HG, HB, HLn, HS, HV, HX⟩
  ihave H := (rcv_wait Av Bv c (true, r, 0)) $$ HV
  icases H with ⟨⟨Hat, Hc⟩, HV⟩
  iapply (wait_recv Av Bv c (true, r, 0) hs hcr hl) $$ [HG Hat Hc]
  · isplitl [HG]; · iexact HG
    isplitl [Hat] <;> iassumption
  iintro ⟨HG, Hz, Hp⟩
  unfold recvPay
  ihave H := (owns_halves (c : Thread nD τ) (dstM (peer (true, r, 0) c) (true, r, 0)) fullShare (val Av Bv (peer (true, r, 0) c) (true, r, 0))).1 $$ Hp
  icases H with ⟨Hl, Hr⟩
  ihave H := (owns_halves (c : Thread nD τ) (dstM (peer (true, r, 0) c) (true, r, 0)) fullShare.right (val Av Bv (peer (true, r, 0) c) (true, r, 0))).1 $$ Hr
  icases H with ⟨Hr1, Hr2⟩
  ihave HS := (snd_stageG Av Bv c r 2 n v hnq) $$ [HS Hr1]
  · isplitl [HS]; · iexact HS
    iapply (sendPay_fwd Av Bv c r 0 2 f2 _ rfl); iexact Hr1
  rw [← e4]
  ihave HS := (snd_stageG Av Bv c r 4 n v (by omega)) $$ [HS Hr2]
  · isplitl [HS]; · iexact HS
    iapply (sendPay_fwd Av Bv c r 0 4 f4 _ rfl); iexact Hr2
  rw [e4]
  iapply h
  isplitl [HG]; · iexact HG
  isplitl [HB]; · iexact HB
  isplitl [HLn]; · iexact HLn
  isplitl [HS]; · iexact HS
  isplitl [HV Hz Hl]
  · iapply HV
    isplitl [Hz]; · iexact Hz
    iexact Hl
  iexact HX

theorem st_waitSend (i : Tx) {v' : ℕ} {sem : DmaSem sig} {src dst : Memref sig .tc .vmem (SC i.2.1) .bf16} {hsrc : src.view.WordExact} {hdst : dst.view.WordExact}
    {k : PUnit → TP F α} {Q : α → sProp 𝕄} (hs : sem = sendQ i) (hcr : dst.view.dmaCredit = crd i) (hv : ix i = v) (hv' : v + 1 = v')
    (h : St Av Bv c 4 d 42 42 v' w a o g ⊢ WP c (k ⟨⟩) Q) :
    St Av Bv c 4 d 42 42 v w a o g ⊢ WP c (.op (.waitDma2 sem src dst hsrc hdst) k) Q := by
  subst hs; subst hv; subst hv'
  unfold St Gh at *
  iintro ⟨⟨%K, %W, #HR, #HL, HO⟩, HB, HLn, HS, HX⟩
  ihave H := (snd_wait Av Bv c i 42 42 (ix_lt i) (ix_lt i)) $$ HS
  icases H with ⟨⟨Hat, Hc⟩, HS⟩
  iapply (Rounds.wp_wait_rest_token 𝒱₀ ER (Rd Av Bv) (c : Thread nD τ) none (κ := K (c, some (false, i)))
      (wpE_waitDma2_eq 𝒱₀ (c : Thread nD τ) none Set.univ) (Set.mem_univ _) () (O := Ow c 4 42) (W := W) (R := 0) (m := 0) (T := ∅)
      (by rw [Nat.zero_add, hcr]; exact (expect_xfer Av Bv c i false).symm)) $$ [Hc HO Hat]
  · isplitr; · iapply (rec_inv Av Bv K c (some (false, i))); iexact HR
    isplitl [Hc]; · rw [hcr]; iexact Hc
    isplitl [HO]; · iexact HO
    isplitr; · rw [Ow_done, MayWait_zero]; iempintro
    iexact Hat
  iintro ⟨HO, Hat, -, Hpay⟩
  ihave Hp := (Entails.of_eq (rest_send' Av Bv c i)) $$ Hpay
  imod (Rounds.cell_close ER (Rd Av Bv) (Set.mem_univ (K (c, some (false, i)))) (fun h => h) (R := 0 + 1) (duties_later Av Bv (sendCell c i))) $$ [Hat] with Hz
  · isplitr; · iapply (rec_inv Av Bv K c (some (false, i))); iexact HR
    iexact Hat
  iapply h
  isplitl [HO]
  · iexists K; iexists _
    isplitr; · iexact HR
    isplitr; · iexact HL
    iexact HO
  isplitl [HB]; · iexact HB
  isplitl [HLn]; · iexact HLn
  isplitl [HS Hz Hp]
  · iapply HS
    isplitl [Hp] <;> iassumption
  iexact HX

/-! ## Slots -/

theorem st_deadS (r : Fin 3) (j : Fin 7) {off : Fin 3 → ℕ} {inb} {hl} {k : Vec F (SU r) .bf16 → TP F α} {Q : α → sProp 𝕄}
    (hoff : off = ![j.val, 0, 0]) (hq : q ≤ ix (false, r, j)) (h : ∀ V, St Av Bv c b d q n v w a o g ⊢ WP c (k V) Q) :
    St Av Bv c b d q n v w a o g ⊢ WP c (.op (.load (sb r) (Rect.unit (s := SB 7 r) off (SU r).size inb).toLoadRect hl) k) Q := by
  subst hoff
  refine (part_then (st_snd Av Bv c q) (snd_raw Av Bv c (false, r, j) q n v hq) wand_apply).trans ?_
  rw [show raw (F := F) c (false, r, j) = iprop(∃ X : Vec F (SC r) .bf16, owns (c : Thread nD τ) (slotM r (sb r) j.val j.isLt) fullShare X) from if_neg Bool.false_ne_true]
  iintro ⟨⟨%X, H⟩, Hk⟩
  iapply (slot_load r (sb r) j.isLt fullShare X) $$ H
  iintro H
  iapply h
  iapply Hk
  iexists X; iexact H

theorem st_stage (r : Fin 3) (j : Fin 7) {q' : ℕ} {off : Fin 3 → ℕ} {inb} {w0 : Vec F (SU r) .bf16} {hx hm} {k : PUnit → TP F α} {Q : α → sProp 𝕄}
    (hoff : off = ![j.val, 0, 0]) (hw : w0 = up r (val Av Bv c (false, r, j))) (hq : ix (false, r, j) = q) (hq' : q + 1 = q') (hnq : n ≤ q)
    (h : St Av Bv c b d q' n v w a o g ⊢ WP c (k ⟨⟩) Q) :
    St Av Bv c b d q n v w a o g ⊢ WP c (.op (.store (sb r) (Rect.unit (s := SB 7 r) off (SU r).size inb) w0 Finset.univ hx hm) k) Q := by
  subst hoff; subst hw; subst hq; subst hq'
  refine (part_then (st_snd Av Bv c (ix (false, r, j) + 1)) (snd_stage Av Bv c (false, r, j) n v hnq) wand_apply).trans ?_
  rw [show raw (F := F) c (false, r, j) = iprop(∃ X : Vec F (SC r) .bf16, owns (c : Thread nD τ) (slotM r (sb r) j.val j.isLt) fullShare X) from if_neg Bool.false_ne_true]
  iintro ⟨⟨%X, H⟩, Hk⟩
  iapply (slot_store r (sb r) j.isLt X (val Av Bv c (false, r, j))) $$ H
  iintro H
  iapply h
  iapply Hk
  unfold sendPay
  iexact H

theorem st_loadR (r : Fin 3) (j : Fin 7) {off : Fin 3 → ℕ} {inb} {hl} {k : Vec F (SU r) .bf16 → TP F α} {Q : α → sProp 𝕄}
    (hoff : off = ![j.val, 0, 0]) (hw : wx (false, r, j) < w)
    (h : St Av Bv c b d q n v w a o g ⊢ WP c (k (up r (val Av Bv (peer (false, r, j) c) (false, r, j)))) Q) :
    St Av Bv c b d q n v w a o g ⊢ WP c (.op (.load (rb r) (Rect.unit (s := SB 7 r) off (SU r).size inb).toLoadRect hl) k) Q := by
  subst hoff
  refine (part_then (st_rcv Av Bv c) (rcv_held Av Bv c (false, r, j) w hw) wand_apply).trans ?_
  show iprop(owns (Val := Elt F) (e := .bf16) (c : Thread nD τ) (slotM r (rb r) j.val j.isLt) _ (val Av Bv (peer (false, r, j) c) (false, r, j)) ∗ _) ⊢ _
  iintro ⟨H, Hk⟩
  iapply (slot_load r (rb r) j.isLt (kp (false, r, j)) (val Av Bv (peer (false, r, j) c) (false, r, j))) $$ H
  iintro H
  iapply h
  iapply Hk
  iexact H

theorem st_loadG (r : Fin 3) (j : Fin 7) (x : Fin 8) {off : Fin 3 → ℕ} {inb} {hl} {k : Vec F (SU r) .bf16 → TP F α} {Q : α → sProp 𝕄}
    (hoff : off = ![(px x c).val, 0, 0]) (hxj : lab (true, r, j) ^^^ msk (true, r, j) = x) (hw : wx (true, r, j) < w)
    (h : St Av Bv c b d q n v w a o g ⊢ WP c (k (up r (gval Av Bv (px x c) r))) Q) :
    St Av Bv c b d q n v w a o g ⊢ WP c (.op (.load (gb r) (Rect.unit (s := SB 8 r) off (SU r).size inb).toLoadRect hl) k) Q := by
  subst hoff
  have e : px (lab (true, r, j)) (peer (true, r, j) c) = px x c := by rw [← hxj]; exact px_xor _ _ c
  refine (part_then (st_rcv Av Bv c) (rcv_held Av Bv c (true, r, j) w hw) wand_apply).trans ?_
  show iprop(owns (Val := Elt F) (e := .bf16) (c : Thread nD τ) (gch r (px (lab (true, r, j)) (peer (true, r, j) c))) _ (gval Av Bv (px (lab (true, r, j)) (peer (true, r, j) c)) r)
    ∗ (owns (Val := Elt F) (e := .bf16) (c : Thread nD τ) (gch r (px (lab (true, r, j)) (peer (true, r, j) c))) _ (gval Av Bv (px (lab (true, r, j)) (peer (true, r, j) c)) r) -∗ _)) ⊢ _
  rw [e]
  iintro ⟨H, Hk⟩
  iapply (slot_load r (gb r) (px x c).isLt (kp (true, r, j)) (gval Av Bv (px x c) r)) $$ H
  iintro H
  iapply h
  iapply Hk
  iexact H

/-! ## The own rows of the gather buffer -/

theorem st_deadG (r : Fin 3) {off : Fin 3 → ℕ} {inb} {hl} {k : Vec F (SU r) .bf16 → TP F α} {Q : α → sProp 𝕄}
    (hoff : off = ![c.val, 0, 0]) (hg : g ≤ r.val) (h : ∀ V, St Av Bv c b d q n v w a o g ⊢ WP c (k V) Q) :
    St Av Bv c b d q n v w a o g ⊢ WP c (.op (.load (gb r) (Rect.unit (s := SB 8 r) off (SU r).size inb).toLoadRect hl) k) Q := by
  subst hoff
  refine (st_own Av Bv c q g).trans ?_
  iintro ⟨⟨HO, HS⟩, Hk⟩
  ihave H := (own_raw (F := F) c r g hg) $$ HO
  icases H with ⟨⟨%X, H⟩, HO⟩
  iapply (slot_load r (gb r) c.isLt fullShare X) $$ H
  iintro H
  iapply h
  iapply Hk
  isplitl [HO H]
  · iapply HO; iexists X; iexact H
  iexact HS

theorem st_storeG (r : Fin 3) {q' g' : ℕ} {off : Fin 3 → ℕ} {inb} {w0 : Vec F (SU r) .bf16} {hx hm} {k : PUnit → TP F α} {Q : α → sProp 𝕄}
    (hoff : off = ![c.val, 0, 0]) (hw : w0 = up r (gval Av Bv c r)) (hg : r.val = g) (hg' : g + 1 = g') (hq : ix (true, r, 0) = q) (hq' : q + 3 = q') (hnq : n ≤ q)
    (h : St Av Bv c b d q' n v w a o g' ⊢ WP c (k ⟨⟩) Q) :
    St Av Bv c b d q n v w a o g ⊢ WP c (.op (.store (gb r) (Rect.unit (s := SB 8 r) off (SU r).size inb) w0 Finset.univ hx hm) k) Q := by
  have e1 : ix (true, r, 1) = ix (true, r, 0) + 1 := ixG1 r
  have e3 : ix (true, r, 3) = ix (true, r, 1) + 1 := ixG3 r
  have hl : lab (true, r, 0) = 0 ∧ lab (true, r, 1) = 0 ∧ lab (true, r, 3) = 0 := ⟨rfl, rfl, rfl⟩
  have hp : ∀ j s, lab (true, r, j) = 0 → shr (true, r, j) = s → (owns (c : Thread nD τ) (gch r c) s (gval Av Bv c r) ⊢ sendPay Av Bv c (true, r, j)) := fun j s h0 h1 => by
    subst h1
    unfold sendPay
    show _ ⊢ owns (Val := Elt F) (e := .bf16) (c : Thread nD τ) (gch r (px (lab (true, r, j)) c)) _ (gval Av Bv (px (lab (true, r, j)) c) r)
    rw [h0, px_zero]
  subst hoff; subst hw; subst hg; subst hg'; subst hq; subst hq'
  refine (st_own Av Bv c (ix (true, r, 0) + 3) (r.val + 1)).trans ?_
  iintro ⟨⟨HO, HS⟩, Hk⟩
  ihave H := (own_store (F := F) c r) $$ HO
  icases H with ⟨⟨%X, H⟩, HO⟩
  iapply (slot_store r (gb r) c.isLt X (gval Av Bv c r)) $$ H
  iintro H
  ihave H := (owns_halves (c : Thread nD τ) (gch r c) fullShare (gval Av Bv c r)).1 $$ H
  icases H with ⟨H0, H⟩
  ihave H := (owns_halves (c : Thread nD τ) (gch r c) fullShare.right (gval Av Bv c r)).1 $$ H
  icases H with ⟨H1, H3⟩
  ihave HS := (snd_stageG Av Bv c r 0 n v hnq) $$ [HS H0]
  · isplitl [HS]; · iexact HS
    iapply (hp 0 _ hl.1 rfl); iexact H0
  rw [← e1]
  ihave HS := (snd_stageG Av Bv c r 1 n v (by omega)) $$ [HS H1]
  · isplitl [HS]; · iexact HS
    iapply (hp 1 _ hl.2.1 rfl); iexact H1
  rw [← e3]
  ihave HS := (snd_stageG Av Bv c r 3 n v (by omega)) $$ [HS H3]
  · isplitl [HS]; · iexact HS
    iapply (hp 3 _ hl.2.2 rfl); iexact H3
  rw [e3, e1]
  iapply h
  iapply Hk
  isplitl [HO]; · iexact HO
  iexact HS

end St

end Cert.KernelIdeal.Run
end
-- ==== Proof.Facts.lean ====
/-
# The program's rows, devices and semaphores

The rows and the devices that the program works out from its device's number, as the exchange masks name them.
-/
module

public import proofs.«01_k».proof.Proof.Common

@[expose] public section

noncomputable section

namespace Cert.KernelIdeal.Run

open Cert.KernelIdeal Cert.KernelIdeal.Gen
open Idealize.ShloMosaic
open Idealize.ShloMosaic.TcCoe

/-! ## Rows -/

theorem off1_eq : ∀ (d : Dev nD) (a b : Fin 8), k0_off1 d (BitVec.ofNat 32 a.val) (BitVec.ofNat 32 b.val) = ![128 * (px (a ^^^ b) d).val, 0] := by decide +kernel
theorem off2_eq : ∀ (d : Dev nD) (a b : Fin 8), k0_off2 d (BitVec.ofNat 32 a.val) (BitVec.ofNat 32 b.val) = ![128 * (px (a ^^^ b) d).val, 384] := by decide +kernel
theorem off3_eq : ∀ (d : Dev nD) (a b : Fin 8), k0_off3 d (BitVec.ofNat 32 a.val) (BitVec.ofNat 32 b.val) = ![128 * (px (a ^^^ b) d).val, 768] := by decide +kernel
theorem off4_eq : ∀ (d : Dev nD) (a : Fin 8), k0_off4 d (BitVec.ofNat 32 a.val) = ![128 * (px a d).val, 0] := by decide +kernel
theorem off5_eq : ∀ (d : Dev nD) (a : Fin 8), k0_off5 d (BitVec.ofNat 32 a.val) = ![128 * (px a d).val, 384] := by decide +kernel
theorem off6_eq : ∀ (d : Dev nD) (a : Fin 8), k0_off6 d (BitVec.ofNat 32 a.val) = ![128 * (px a d).val, 768] := by decide +kernel
theorem off7_eq : ∀ d : Dev nD, k0_off7 d = ![128 * (px 0 d).val, 0] := by decide +kernel
theorem off10_eq : ∀ d : Dev nD, k0_off10 d = ![128 * (px 0 d).val, 384] := by decide +kernel
theorem off11_eq : ∀ d : Dev nD, k0_off11 d = ![128 * (px 0 d).val, 768] := by decide +kernel
theorem off8_eq : ∀ d : Dev nD, k0_off8 d = ![d.val, 0, 0] := by decide +kernel
theorem off12_eq : ∀ d : Dev nD, k0_off12 d = ![d.val, 0, 0] := by decide +kernel
theorem off9_eq : ∀ (d : Dev nD) (a : Fin 8), k0_off9 d (BitVec.ofNat 32 a.val) = ![(px a d).val, 0, 0] := by decide +kernel
theorem off13_eq : ∀ (d : Dev nD) (a : Fin 8), k0_off13 d (BitVec.ofNat 32 a.val) = ![(px a d).val, 0, 0] := by decide +kernel
theorem off14_eq : ∀ (d : Dev nD) (a : Fin 8), k0_off14 d (BitVec.ofNat 32 a.val) = ![(px a d).val, 0, 0] := by decide +kernel
theorem off15_eq : ∀ (d : Dev nD) (a : Fin 8), k0_off15 d (BitVec.ofNat 32 a.val) = ![(px a d).val, 0, 0] := by decide +kernel

/-! ## Devices -/

theorem dev1 : ∀ d : Dev nD, (⟨k0_dev1 d, k0_dev1_lt d⟩ : Dev nD) = px (mk 0) d := by decide +kernel
theorem dev2 : ∀ d : Dev nD, (⟨k0_dev2 d, k0_dev2_lt d⟩ : Dev nD) = px (mk 1) d := by decide +kernel
theorem dev3 : ∀ d : Dev nD, (⟨k0_dev3 d, k0_dev3_lt d⟩ : Dev nD) = px (mk 2) d := by decide +kernel
theorem dev4 : ∀ d : Dev nD, (⟨k0_dev4 d, k0_dev4_lt d⟩ : Dev nD) = peer (false, 0, 0) d := by decide +kernel
theorem dev5 : ∀ d : Dev nD, (⟨k0_dev5 d, k0_dev5_lt d⟩ : Dev nD) = peer (false, 0, 1) d := by decide +kernel
theorem dev6 : ∀ d : Dev nD, (⟨k0_dev6 d, k0_dev6_lt d⟩ : Dev nD) = peer (false, 0, 2) d := by decide +kernel
theorem dev7 : ∀ d : Dev nD, (⟨k0_dev7 d, k0_dev7_lt d⟩ : Dev nD) = peer (false, 0, 3) d := by decide +kernel
theorem dev8 : ∀ d : Dev nD, (⟨k0_dev8 d, k0_dev8_lt d⟩ : Dev nD) = peer (false, 1, 0) d := by decide +kernel
theorem dev9 : ∀ d : Dev nD, (⟨k0_dev9 d, k0_dev9_lt d⟩ : Dev nD) = peer (false, 1, 1) d := by decide +kernel
theorem dev10 : ∀ d : Dev nD, (⟨k0_dev10 d, k0_dev10_lt d⟩ : Dev nD) = peer (false, 1, 2) d := by decide +kernel
theorem dev11 : ∀ d : Dev nD, (⟨k0_dev11 d, k0_dev11_lt d⟩ : Dev nD) = peer (false, 1, 3) d := by decide +kernel
theorem dev12 : ∀ d : Dev nD, (⟨k0_dev12 d, k0_dev12_lt d⟩ : Dev nD) = peer (false, 2, 0) d := by decide +kernel
theorem dev13 : ∀ d : Dev nD, (⟨k0_dev13 d, k0_dev13_lt d⟩ : Dev nD) = peer (false, 2, 1) d := by decide +kernel
theorem dev14 : ∀ d : Dev nD, (⟨k0_dev14 d, k0_dev14_lt d⟩ : Dev nD) = peer (false, 2, 2) d := by decide +kernel
theorem dev15 : ∀ d : Dev nD, (⟨k0_dev15 d, k0_dev15_lt d⟩ : Dev nD) = peer (false, 2, 3) d := by decide +kernel
theorem dev16 : ∀ d : Dev nD, (⟨k0_dev16 d, k0_dev16_lt d⟩ : Dev nD) = peer (false, 0, 4) d := by decide +kernel
theorem dev17 : ∀ d : Dev nD, (⟨k0_dev17 d, k0_dev17_lt d⟩ : Dev nD) = peer (false, 0, 5) d := by decide +kernel
theorem dev18 : ∀ d : Dev nD, (⟨k0_dev18 d, k0_dev18_lt d⟩ : Dev nD) = peer (false, 1, 4) d := by decide +kernel
theorem dev19 : ∀ d : Dev nD, (⟨k0_dev19 d, k0_dev19_lt d⟩ : Dev nD) = peer (false, 1, 5) d := by decide +kernel
theorem dev20 : ∀ d : Dev nD, (⟨k0_dev20 d, k0_dev20_lt d⟩ : Dev nD) = peer (false, 2, 4) d := by decide +kernel
theorem dev21 : ∀ d : Dev nD, (⟨k0_dev21 d, k0_dev21_lt d⟩ : Dev nD) = peer (false, 2, 5) d := by decide +kernel
theorem dev22 : ∀ d : Dev nD, (⟨k0_dev22 d, k0_dev22_lt d⟩ : Dev nD) = peer (false, 0, 6) d := by decide +kernel
theorem dev23 : ∀ d : Dev nD, (⟨k0_dev23 d, k0_dev23_lt d⟩ : Dev nD) = peer (false, 1, 6) d := by decide +kernel
theorem dev24 : ∀ d : Dev nD, (⟨k0_dev24 d, k0_dev24_lt d⟩ : Dev nD) = peer (false, 2, 6) d := by decide +kernel
theorem dev25 : ∀ d : Dev nD, (⟨k0_dev25 d, k0_dev25_lt d⟩ : Dev nD) = peer (true, 0, 0) d := by decide +kernel
theorem dev26 : ∀ d : Dev nD, (⟨k0_dev26 d, k0_dev26_lt d⟩ : Dev nD) = peer (true, 0, 1) d := by decide +kernel
theorem dev27 : ∀ d : Dev nD, (⟨k0_dev27 d, k0_dev27_lt d⟩ : Dev nD) = peer (true, 0, 3) d := by decide +kernel
theorem dev28 : ∀ d : Dev nD, (⟨k0_dev28 d, k0_dev28_lt d⟩ : Dev nD) = peer (true, 1, 0) d := by decide +kernel
theorem dev29 : ∀ d : Dev nD, (⟨k0_dev29 d, k0_dev29_lt d⟩ : Dev nD) = peer (true, 1, 1) d := by decide +kernel
theorem dev30 : ∀ d : Dev nD, (⟨k0_dev30 d, k0_dev30_lt d⟩ : Dev nD) = peer (true, 1, 3) d := by decide +kernel
theorem dev31 : ∀ d : Dev nD, (⟨k0_dev31 d, k0_dev31_lt d⟩ : Dev nD) = peer (true, 2, 0) d := by decide +kernel
theorem dev32 : ∀ d : Dev nD, (⟨k0_dev32 d, k0_dev32_lt d⟩ : Dev nD) = peer (true, 2, 1) d := by decide +kernel
theorem dev33 : ∀ d : Dev nD, (⟨k0_dev33 d, k0_dev33_lt d⟩ : Dev nD) = peer (true, 2, 3) d := by decide +kernel
theorem dev34 : ∀ d : Dev nD, (⟨k0_dev34 d, k0_dev34_lt d⟩ : Dev nD) = peer (true, 0, 2) d := by decide +kernel
theorem dev35 : ∀ d : Dev nD, (⟨k0_dev35 d, k0_dev35_lt d⟩ : Dev nD) = peer (true, 0, 4) d := by decide +kernel
theorem dev36 : ∀ d : Dev nD, (⟨k0_dev36 d, k0_dev36_lt d⟩ : Dev nD) = peer (true, 1, 2) d := by decide +kernel
theorem dev37 : ∀ d : Dev nD, (⟨k0_dev37 d, k0_dev37_lt d⟩ : Dev nD) = peer (true, 1, 4) d := by decide +kernel
theorem dev38 : ∀ d : Dev nD, (⟨k0_dev38 d, k0_dev38_lt d⟩ : Dev nD) = peer (true, 2, 2) d := by decide +kernel
theorem dev39 : ∀ d : Dev nD, (⟨k0_dev39 d, k0_dev39_lt d⟩ : Dev nD) = peer (true, 2, 4) d := by decide +kernel
theorem dev40 : ∀ d : Dev nD, (⟨k0_dev40 d, k0_dev40_lt d⟩ : Dev nD) = peer (true, 0, 5) d := by decide +kernel
theorem dev41 : ∀ d : Dev nD, (⟨k0_dev41 d, k0_dev41_lt d⟩ : Dev nD) = peer (true, 1, 5) d := by decide +kernel
theorem dev42 : ∀ d : Dev nD, (⟨k0_dev42 d, k0_dev42_lt d⟩ : Dev nD) = peer (true, 2, 5) d := by decide +kernel
theorem dev43 : ∀ d : Dev nD, (⟨k0_dev43 d, k0_dev43_lt d⟩ : Dev nD) = peer (true, 0, 6) d := by decide +kernel
theorem dev44 : ∀ d : Dev nD, (⟨k0_dev44 d, k0_dev44_lt d⟩ : Dev nD) = peer (true, 1, 6) d := by decide +kernel
theorem dev45 : ∀ d : Dev nD, (⟨k0_dev45 d, k0_dev45_lt d⟩ : Dev nD) = peer (true, 2, 6) d := by decide +kernel

end Cert.KernelIdeal.Run
end
-- ==== Proof.Pays.lean ====
/-
# The stored values

What the program stores, told in the values the transfers carry: a stripe at a time.
-/
module

public import proofs.«01_k».proof.Proof.Comm
public import proofs.«01_k».proof.Proof.Facts

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (Av : Dev nD → FVec F S1024x512 .f32) (Bv : Dev nD → FVec F S512x1024 .f32) (c : Dev nD)

/-- A 16-bit chunk raised to a slot's shape, and a slot brought down to a chunk's. -/
abbrev ub (r : Fin 3) (X : FVec F (SC r) .bf16) : FVec F (SU r) .bf16 := up (F := F) (e := .bf16) r X
abbrev db (r : Fin 3) (X : FVec F (SU r) .bf16) : FVec F (SC r) .bf16 := shapeCast (SC r) X (dnc r)

theorem db_ub (r : Fin 3) (X : FVec F (SC r) .bf16) : db r (ub r X) = X := shapeCast_shapeCast X (upc r) (dnc r)

/-- A piece of the partial product as first sent. -/
theorem pay_first (r : Fin 3) (x : Fin 8) : ub r (tr (pacc Av Bv c r x 0)) = ub r (tr (pc0 Av Bv c r (px x c))) := by
  rw [pacc_zero]

/-- What a device adds to a piece it passes on: the sum as sent. -/
theorem pay_fwd4 (r : Fin 3) :
    ub r (tr (addf (pacc Av Bv c r (mk (r + 1)) 0) (ex (db r (ub r (val Av Bv (peer (false, r, 1) c) (false, r, 1))))))) = ub r (val Av Bv c (false, r, 4)) := by
  rw [db_ub, pacc_zero]; fin_cases r <;> rfl
theorem pay_fwd5 (r : Fin 3) :
    ub r (tr (addf (pacc Av Bv c r (mk (r + 1) ^^^ mk (r + 2)) 0) (ex (db r (ub r (val Av Bv (peer (false, r, 3) c) (false, r, 3))))))) = ub r (val Av Bv c (false, r, 5)) := by
  rw [db_ub, pacc_zero]; fin_cases r <;> rfl
theorem pacc_six (r : Fin 3) : pacc Av Bv c r (mk (r + 2)) 6 = addf (pc0 Av Bv c r (px (mk (r + 2)) c)) (ex (val Av Bv (peer (false, r, 2) c) (false, r, 2))) := by
  unfold pacc
  rw [if_neg (by revert r; decide), if_pos ⟨rfl, by have := r.isLt; omega⟩]
theorem pay_fwd6 (r : Fin 3) :
    ub r (tr (addf (pacc Av Bv c r (mk (r + 2)) 6) (ex (db r (ub r (val Av Bv (peer (false, r, 5) c) (false, r, 5))))))) = ub r (val Av Bv c (false, r, 6)) := by
  rw [db_ub, pacc_six]; fin_cases r <;> rfl

/-- An accumulation into the partial product. -/
theorem pay_acc (r : Fin 3) (P : FVec F (SC r) .f32) (X : FVec F (SC r) .bf16) {h : (SC r).ShapeCasts (SC r)} :
    shapeCast (SC r) (addf P (ex (db r (ub r X)))) h = addf P (ex X) := by
  rw [db_ub]; exact shapeCast_self _ h

theorem pay_at (r : Fin 3) (x : Fin 8) (k : Fin 7) (a : ℕ) {h : (SC r).ShapeCasts (SC r)} :
    shapeCast (SC r) (addf (pacc Av Bv c r x a) (ex (db r (ub r (val Av Bv (peer (false, r, k) c) (false, r, k)))))) h
      = addf (pacc Av Bv c r x a) (ex (val Av Bv (peer (false, r, k) c) (false, r, k))) := pay_acc r _ _

theorem pacc_nine (r : Fin 3) : addf (pacc Av Bv c r 0 9) (ex (db r (ub r (val Av Bv (peer (false, r, 6) c) (false, r, 6))))) = zz Av Bv c r := by
  rw [db_ub]; unfold pacc
  rw [if_pos rfl, if_pos (by have := r.isLt; omega), px_zero]; fin_cases r <;> rfl

/-- The own chunk of the result. -/
theorem pay_own (r : Fin 3) :
    mulf (addf (pacc Av Bv c r 0 9) (ex (db r (ub r (val Av Bv (peer (false, r, 6) c) (false, r, 6))))))
      (logistic (addf (pacc Av Bv c r 0 9) (ex (db r (ub r (val Av Bv (peer (false, r, 6) c) (false, r, 6))))))) = oval Av Bv c r 0 := by
  rw [pacc_nine]; rfl

/-- The same chunk as it is sent round. -/
theorem pay_gather (r : Fin 3) {h : (SU r).ShapeCasts (SU r)} :
    shapeCast (SU r) (ub r (tr (mulf (addf (pacc Av Bv c r 0 9) (ex (db r (ub r (val Av Bv (peer (false, r, 6) c) (false, r, 6))))))
      (logistic (addf (pacc Av Bv c r 0 9) (ex (db r (ub r (val Av Bv (peer (false, r, 6) c) (false, r, 6)))))))))) h = ub r (gval Av Bv c r) := by
  rw [pacc_nine]; exact shapeCast_self _ h

/-- Another device's chunk of the result. -/
theorem pay_got (r : Fin 3) (x : Fin 8) (hx : x ≠ 0) : ex (db r (ub r (gval Av Bv (px x c) r))) = oval Av Bv c r x := by
  rw [db_ub]; exact (if_neg hx).symm

/-- The rows of a device in the gather buffer, at an offset the program computes. -/
theorem gch_eq (r : Fin 3) {off : Fin 3 → ℕ} {inb h1 h2} {d : Dev nD} (hoff : off = ![d.val, 0, 0]) :
    ((gb r).slice (Rect.unit (s := SB 8 r) off (SU r).size inb) h1).squeeze (SC r) h2 = gch r d := by
  subst hoff; rfl

theorem st_ret {α : Type} {x : α} {S : sProp 𝕄} {Q : α → sProp 𝕄} (h : S ⊢ Q x) : S ⊢ WP c (Prog.ret x) Q := by
  rw [WP, wp_ret]
  exact h.trans fupd_intro

/-- A piece of the body, as a function of the buffers it is given. -/
abbrev Piece (R : Type 1) : Type 1 :=
  (arg0 : Memref sig .tc .vmem S1024x512 .f32) → arg0.IsWhole → (arg1 : Memref sig .tc .vmem S512x1024 .f32) → arg1.IsWhole →
  (arg2 : Memref sig .tc .vmem S1024x1024 .f32) → arg2.IsWhole → (arg3 : Memref sig .tc .vmem S1024x1024 .f32) → arg3.IsWhole →
  (arg4 : Memref sig .tc .vmem S7x128x384 .bf16) → arg4.IsWhole → (arg5 : Memref sig .tc .vmem S7x128x384 .bf16) → arg5.IsWhole →
  (arg6 : Memref sig .tc .vmem S7x128x256 .bf16) → arg6.IsWhole → (arg7 : Memref sig .tc .vmem S7x128x384 .bf16) → arg7.IsWhole →
  (arg8 : Memref sig .tc .vmem S7x128x384 .bf16) → arg8.IsWhole → (arg9 : Memref sig .tc .vmem S7x128x256 .bf16) → arg9.IsWhole →
  (arg10 : Memref sig .tc .vmem S8x128x384 .bf16) → arg10.IsWhole → (arg11 : Memref sig .tc .vmem S8x128x384 .bf16) → arg11.IsWhole →
  (arg12 : Memref sig .tc .vmem S8x128x256 .bf16) → arg12.IsWhole →
  DmaSems sig S3x7 → DmaSems sig S3x7 → DmaSems sig S3x7 → DmaSems sig S3x7 → R

/-- A piece of the body on the launch's buffers. -/
abbrev on {R : Type 1} (p : Piece R) : R :=
  p (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _)
    cc0_scratch10 cc0_scratch11 cc0_scratch12 cc0_scratch13

end Cert.KernelIdeal.Run
end
-- ==== Proof.Parts1.lean ====
/-
# The body's parts, first quarter

Each part takes the state before it to the state after it: the operations in order, one step each.
-/
module

public import proofs.«01_k».proof.Proof.Pays

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (Av : Dev nD → FVec F S1024x512 .f32) (Bv : Dev nD → FVec F S512x1024 .f32) (c : Dev nD)

theorem part1 {Q : (Σ' (d0 : Dev nD) (v2 : BitVec 32) (v3 : Sems sig S_), FVec F S128x384 .bf16) → sProp 𝕄}
    (h : ∀ (x1 : BitVec 32), St Av Bv c 3 1 0 0 0 0 0 0 0 ⊢ Q ⟨c, x1, SemArray.scalar (sig.barrier 0 rfl), (k0_pay2 (pacc Av Bv c 0 1 0))⟩) :
    St Av Bv c 0 0 0 0 0 0 0 0 0 ⊢ WP c (on (k0_part1 (F := F))) Q := by
  simp only [on, k0_part1_eq_skeleton]; unfold k0_part1_skel
  simp only [semSignalWord, semWaitWord, Prog.lift, Prog.bind_op, Prog.bind_ret, Prog.pure_eq_ret, wp_deviceId]
  refine st_signal Av Bv c 0 (dev1 c) rfl rfl rfl rfl ?_
  refine st_signal Av Bv c 1 (dev2 c) rfl rfl rfl rfl ?_
  refine st_signal Av Bv c 2 (dev3 c) rfl rfl rfl rfl ?_
  refine st_loadA Av Bv c ?_
  refine st_loadB Av Bv c 0 rfl ?_
  refine st_deadP Av Bv c fun _ => ?_
  refine st_dot Av Bv c 0 rfl rfl rfl rfl ?_
  refine st_loadP Av Bv c 0 1 (off1_eq c 1 0) (by decide) ?_
  exact st_ret c (h _)

theorem part2 (v2 : BitVec 32) {Q : FVec F S1024x512 .f32 → sProp 𝕄}
    (h : St Av Bv c 3 1 4 0 0 0 0 0 0 ⊢ Q (k0_pay7 (Av c))) :
    St Av Bv c 3 1 0 0 0 0 0 0 0 ⊢ WP c (on (k0_part2 (F := F)) c v2 (k0_pay2 (pacc Av Bv c 0 1 0))) Q := by
  simp only [on, k0_part2_eq_skeleton]; unfold k0_part2_skel
  simp only [semSignalWord, semWaitWord, Prog.lift, Prog.bind_op, Prog.bind_ret, Prog.pure_eq_ret, wp_deviceId]
  refine st_deadS Av Bv c 0 0 rfl (by decide) fun _ => ?_
  refine st_stage Av Bv c 0 0 rfl (pay_first Av Bv c 0 1) rfl rfl (by decide) ?_
  refine st_loadP Av Bv c 0 2 (off1_eq c 1 3) (by decide) ?_
  refine st_deadS Av Bv c 0 1 rfl (by decide) fun _ => ?_
  refine st_stage Av Bv c 0 1 rfl (pay_first Av Bv c 0 2) rfl rfl (by decide) ?_
  refine st_loadP Av Bv c 0 5 (off1_eq c 1 4) (by decide) ?_
  refine st_deadS Av Bv c 0 2 rfl (by decide) fun _ => ?_
  refine st_stage Av Bv c 0 2 rfl (pay_first Av Bv c 0 5) rfl rfl (by decide) ?_
  refine st_loadP Av Bv c 0 6 (off1_eq c 1 7) (by decide) ?_
  refine st_deadS Av Bv c 0 3 rfl (by decide) fun _ => ?_
  refine st_stage Av Bv c 0 3 rfl (pay_first Av Bv c 0 6) rfl rfl (by decide) ?_
  refine st_loadA Av Bv c ?_
  exact st_ret c h

theorem part3 (v2 : BitVec 32) {Q : FVec F S128x384 .bf16 → sProp 𝕄}
    (h : St Av Bv c 3 2 6 0 0 0 0 0 0 ⊢ Q (k0_pay11 (pacc Av Bv c 1 2 0))) :
    St Av Bv c 3 1 4 0 0 0 0 0 0 ⊢ WP c (on (k0_part3 (F := F)) c v2 (k0_pay7 (Av c))) Q := by
  simp only [on, k0_part3_eq_skeleton]; unfold k0_part3_skel
  simp only [semSignalWord, semWaitWord, Prog.lift, Prog.bind_op, Prog.bind_ret, Prog.pure_eq_ret, wp_deviceId]
  refine st_loadB Av Bv c 1 rfl ?_
  refine st_deadP Av Bv c fun _ => ?_
  refine st_dot Av Bv c 1 rfl rfl rfl rfl ?_
  refine st_loadP Av Bv c 1 3 (off2_eq c 3 0) (by decide) ?_
  refine st_deadS Av Bv c 1 0 rfl (by decide) fun _ => ?_
  refine st_stage Av Bv c 1 0 rfl (pay_first Av Bv c 1 3) rfl rfl (by decide) ?_
  refine st_loadP Av Bv c 1 7 (off2_eq c 3 4) (by decide) ?_
  refine st_deadS Av Bv c 1 1 rfl (by decide) fun _ => ?_
  refine st_stage Av Bv c 1 1 rfl (pay_first Av Bv c 1 7) rfl rfl (by decide) ?_
  refine st_loadP Av Bv c 1 2 (off2_eq c 3 1) (by decide) ?_
  refine st_deadS Av Bv c 1 2 rfl (by decide) fun _ => ?_
  exact st_ret c h

theorem part4 (v2 : BitVec 32) {Q : PUnit → sProp 𝕄}
    (h : St Av Bv c 3 3 9 0 0 0 0 0 0 ⊢ Q ⟨⟩) :
    St Av Bv c 3 2 6 0 0 0 0 0 0 ⊢ WP c (on (k0_part4 (F := F)) c v2 (k0_pay11 (pacc Av Bv c 1 2 0))) Q := by
  simp only [on, k0_part4_eq_skeleton]; unfold k0_part4_skel
  simp only [semSignalWord, semWaitWord, Prog.lift, Prog.bind_op, Prog.bind_ret, Prog.pure_eq_ret, wp_deviceId]
  refine st_stage Av Bv c 1 2 rfl (pay_first Av Bv c 1 2) rfl rfl (by decide) ?_
  refine st_loadP Av Bv c 1 6 (off2_eq c 3 5) (by decide) ?_
  refine st_deadS Av Bv c 1 3 rfl (by decide) fun _ => ?_
  refine st_stage Av Bv c 1 3 rfl (pay_first Av Bv c 1 6) rfl rfl (by decide) ?_
  refine st_loadA Av Bv c ?_
  refine st_loadB Av Bv c 2 rfl ?_
  refine st_deadP Av Bv c fun _ => ?_
  refine st_dot Av Bv c 2 rfl rfl rfl rfl ?_
  refine st_loadP Av Bv c 2 4 (off3_eq c 4 0) (by decide) ?_
  refine st_deadS Av Bv c 2 0 rfl (by decide) fun _ => ?_
  refine st_stage Av Bv c 2 0 rfl (pay_first Av Bv c 2 4) rfl rfl (by decide) ?_
  exact st_ret c h

theorem part5 (v2 : BitVec 32) {Q : BitVec 32 → sProp 𝕄}
    (h : ∀ (x1 : BitVec 32), St Av Bv c 4 3 12 0 0 0 0 0 0 ⊢ Q x1) :
    St Av Bv c 3 3 9 0 0 0 0 0 0 ⊢ WP c (on (k0_part5 (F := F)) c v2 (SemArray.scalar (sig.barrier 0 rfl))) Q := by
  simp only [on, k0_part5_eq_skeleton]; unfold k0_part5_skel
  simp only [semSignalWord, semWaitWord, Prog.lift, Prog.bind_op, Prog.bind_ret, Prog.pure_eq_ret, wp_deviceId]
  refine st_loadP Av Bv c 2 5 (off3_eq c 4 1) (by decide) ?_
  refine st_deadS Av Bv c 2 1 rfl (by decide) fun _ => ?_
  refine st_stage Av Bv c 2 1 rfl (pay_first Av Bv c 2 5) rfl rfl (by decide) ?_
  refine st_loadP Av Bv c 2 7 (off3_eq c 4 3) (by decide) ?_
  refine st_deadS Av Bv c 2 2 rfl (by decide) fun _ => ?_
  refine st_stage Av Bv c 2 2 rfl (pay_first Av Bv c 2 7) rfl rfl (by decide) ?_
  refine st_loadP Av Bv c 2 6 (off3_eq c 4 2) (by decide) ?_
  refine st_deadS Av Bv c 2 3 rfl (by decide) fun _ => ?_
  refine st_stage Av Bv c 2 3 rfl (pay_first Av Bv c 2 6) rfl rfl (by decide) ?_
  refine st_barwait Av Bv c rfl rfl ?_
  exact st_ret c (h _)

theorem part6 (v2 : BitVec 32) {Q : (Σ' (v156 : BitVec 32), BitVec 32) → sProp 𝕄}
    (h : ∀ (x1 x2 : BitVec 32), St Av Bv c 4 3 12 2 0 0 0 0 0 ⊢ Q ⟨x1, x2⟩) :
    St Av Bv c 4 3 12 0 0 0 0 0 0 ⊢ WP c (on (k0_part6 (F := F)) c v2) Q := by
  simp only [on, k0_part6_eq_skeleton]; unfold k0_part6_skel
  simp only [semSignalWord, semWaitWord, Prog.lift, Prog.bind_op, Prog.bind_ret, Prog.pure_eq_ret, wp_deviceId]
  refine st_send Av Bv c (false, 0, 0) (dev4 c) rfl rfl rfl rfl rfl rfl (by decide) (by decide) ?_
  refine st_send Av Bv c (false, 0, 1) (dev5 c) rfl rfl rfl rfl rfl rfl (by decide) (by decide) ?_
  exact st_ret c (h _ _)

theorem part7 (v2 : BitVec 32) {Q : (Σ' (v178 : BitVec 32) (v189 : BitVec 32) (v200 : BitVec 32), BitVec 32) → sProp 𝕄}
    (h : ∀ (x1 x2 x3 x4 : BitVec 32), St Av Bv c 4 3 12 5 0 0 0 0 0 ⊢ Q ⟨x1, x2, x3, x4⟩) :
    St Av Bv c 4 3 12 2 0 0 0 0 0 ⊢ WP c (on (k0_part7 (F := F)) c v2) Q := by
  simp only [on, k0_part7_eq_skeleton]; unfold k0_part7_skel
  simp only [semSignalWord, semWaitWord, Prog.lift, Prog.bind_op, Prog.bind_ret, Prog.pure_eq_ret, wp_deviceId]
  refine st_send Av Bv c (false, 0, 2) (dev6 c) rfl rfl rfl rfl rfl rfl (by decide) (by decide) ?_
  refine st_send Av Bv c (false, 0, 3) (dev7 c) rfl rfl rfl rfl rfl rfl (by decide) (by decide) ?_
  refine st_send Av Bv c (false, 1, 0) (dev8 c) rfl rfl rfl rfl rfl rfl (by decide) (by decide) ?_
  exact st_ret c (h _ _ _ _)

theorem part8 (v2 v200 c1_i32_176 : BitVec 32) {Q : (Σ' (v211 : BitVec 32), BitVec 32) → sProp 𝕄}
    (h : ∀ (x1 x2 : BitVec 32), St Av Bv c 4 3 12 7 0 0 0 0 0 ⊢ Q ⟨x1, x2⟩) :
    St Av Bv c 4 3 12 5 0 0 0 0 0 ⊢ WP c (on (k0_part8 (F := F)) c v2 v200 c1_i32_176) Q := by
  simp only [on, k0_part8_eq_skeleton]; unfold k0_part8_skel
  simp only [semSignalWord, semWaitWord, Prog.lift, Prog.bind_op, Prog.bind_ret, Prog.pure_eq_ret, wp_deviceId]
  refine st_send Av Bv c (false, 1, 1) (dev9 c) rfl rfl rfl rfl rfl rfl (by decide) (by decide) ?_
  refine st_send Av Bv c (false, 1, 2) (dev10 c) rfl rfl rfl rfl rfl rfl (by decide) (by decide) ?_
  exact st_ret c (h _ _)

theorem part9 (v2 : BitVec 32) {Q : (Σ' (v233 : BitVec 32) (v244 : BitVec 32), BitVec 32) → sProp 𝕄}
    (h : ∀ (x1 x2 x3 : BitVec 32), St Av Bv c 4 3 12 10 0 0 0 0 0 ⊢ Q ⟨x1, x2, x3⟩) :
    St Av Bv c 4 3 12 7 0 0 0 0 0 ⊢ WP c (on (k0_part9 (F := F)) c v2) Q := by
  simp only [on, k0_part9_eq_skeleton]; unfold k0_part9_skel
  simp only [semSignalWord, semWaitWord, Prog.lift, Prog.bind_op, Prog.bind_ret, Prog.pure_eq_ret, wp_deviceId]
  refine st_send Av Bv c (false, 1, 3) (dev11 c) rfl rfl rfl rfl rfl rfl (by decide) (by decide) ?_
  refine st_send Av Bv c (false, 2, 0) (dev12 c) rfl rfl rfl rfl rfl rfl (by decide) (by decide) ?_
  refine st_send Av Bv c (false, 2, 1) (dev13 c) rfl rfl rfl rfl rfl rfl (by decide) (by decide) ?_
  exact st_ret c (h _ _ _)

theorem part10 (v2 v156 v255 : BitVec 32) {Q : BitVec 32 → sProp 𝕄}
    (h : ∀ (x1 : BitVec 32), St Av Bv c 4 3 12 12 0 0 0 0 0 ⊢ Q x1) :
    St Av Bv c 4 3 12 10 0 0 0 0 0 ⊢ WP c (on (k0_part10 (F := F)) c v2 v156 v255) Q := by
  simp only [on, k0_part10_eq_skeleton]; unfold k0_part10_skel
  simp only [semSignalWord, semWaitWord, Prog.lift, Prog.bind_op, Prog.bind_ret, Prog.pure_eq_ret, wp_deviceId]
  refine st_send Av Bv c (false, 2, 2) (dev14 c) rfl rfl rfl rfl rfl rfl (by decide) (by decide) ?_
  refine st_send Av Bv c (false, 2, 3) (dev15 c) rfl rfl rfl rfl rfl rfl (by decide) (by decide) ?_
  exact st_ret c (h _)

theorem part11 (v2 v178 : BitVec 32) {Q : BitVec 32 → sProp 𝕄}
    (h : ∀ (x1 : BitVec 32), St Av Bv c 4 3 13 12 0 2 0 0 0 ⊢ Q x1) :
    St Av Bv c 4 3 12 12 0 0 0 0 0 ⊢ WP c (on (k0_part11 (F := F)) c v2 v178) Q := by
  simp only [on, k0_part11_eq_skeleton]; unfold k0_part11_skel
  simp only [semSignalWord, semWaitWord, Prog.lift, Prog.bind_op, Prog.bind_ret, Prog.pure_eq_ret, wp_deviceId]
  refine st_wait Av Bv c (false, 0, 1) rfl rfl (by decide) rfl rfl rfl ?_
  refine st_wait Av Bv c (false, 0, 3) rfl rfl (by decide) rfl rfl rfl ?_
  refine st_loadP Av Bv c 0 3 (off1_eq c 3 0) (by decide) ?_
  refine st_loadR Av Bv c 0 1 rfl (by decide) ?_
  refine st_deadS Av Bv c 0 4 rfl (by decide) fun _ => ?_
  refine st_stage Av Bv c 0 4 rfl (pay_fwd4 Av Bv c 0) rfl rfl (by decide) ?_
  exact st_ret c (h _)

theorem part12 (v2 v306 : BitVec 32) {Q : BitVec 32 → sProp 𝕄}
    (h : ∀ (x1 : BitVec 32), St Av Bv c 4 3 14 13 0 2 0 0 0 ⊢ Q x1) :
    St Av Bv c 4 3 13 12 0 2 0 0 0 ⊢ WP c (on (k0_part12 (F := F)) c v2 v306) Q := by
  simp only [on, k0_part12_eq_skeleton]; unfold k0_part12_skel
  simp only [semSignalWord, semWaitWord, Prog.lift, Prog.bind_op, Prog.bind_ret, Prog.pure_eq_ret, wp_deviceId]
  refine st_send Av Bv c (false, 0, 4) (dev16 c) rfl rfl rfl rfl rfl rfl (by decide) (by decide) ?_
  refine st_loadP Av Bv c 0 7 (off1_eq c 3 4) (by decide) ?_
  refine st_loadR Av Bv c 0 3 rfl (by decide) ?_
  refine st_deadS Av Bv c 0 5 rfl (by decide) fun _ => ?_
  refine st_stage Av Bv c 0 5 rfl (pay_fwd5 Av Bv c 0) rfl rfl (by decide) ?_
  exact st_ret c (h _)

theorem part13 (v2 v200 v222 : BitVec 32) {Q : Vec F S128x384 .f32 → sProp 𝕄}
    (h : St Av Bv c 4 3 14 14 0 4 0 0 0 ⊢ Q (pacc Av Bv c 1 4 0)) :
    St Av Bv c 4 3 14 13 0 2 0 0 0 ⊢ WP c (on (k0_part13 (F := F)) c v2 v200 v222) Q := by
  simp only [on, k0_part13_eq_skeleton]; unfold k0_part13_skel
  simp only [semSignalWord, semWaitWord, Prog.lift, Prog.bind_op, Prog.bind_ret, Prog.pure_eq_ret, wp_deviceId]
  refine st_send Av Bv c (false, 0, 5) (dev17 c) rfl rfl rfl rfl rfl rfl (by decide) (by decide) ?_
  refine st_wait Av Bv c (false, 1, 1) rfl rfl (by decide) rfl rfl rfl ?_
  refine st_wait Av Bv c (false, 1, 3) rfl rfl (by decide) rfl rfl rfl ?_
  refine st_loadP Av Bv c 1 4 (off2_eq c 4 0) (by decide) ?_
  exact st_ret c h

theorem part14 (v2 : BitVec 32) {Q : (Σ' (v370 : BitVec 32), FVec F S1x128x384 .bf16) → sProp 𝕄}
    (h : ∀ (x1 : BitVec 32), St Av Bv c 4 3 15 15 0 4 0 0 0 ⊢ Q ⟨x1, (k0_pay22 (pacc Av Bv c 1 5 0) (up 1 (val Av Bv (peer (false, 1, 3) c) (false, 1, 3))))⟩) :
    St Av Bv c 4 3 14 14 0 4 0 0 0 ⊢ WP c (on (k0_part14 (F := F)) c v2 (pacc Av Bv c 1 4 0)) Q := by
  simp only [on, k0_part14_eq_skeleton]; unfold k0_part14_skel
  simp only [semSignalWord, semWaitWord, Prog.lift, Prog.bind_op, Prog.bind_ret, Prog.pure_eq_ret, wp_deviceId]
  refine st_loadR Av Bv c 1 1 rfl (by decide) ?_
  refine st_deadS Av Bv c 1 4 rfl (by decide) fun _ => ?_
  refine st_stage Av Bv c 1 4 rfl (pay_fwd4 Av Bv c 1) rfl rfl (by decide) ?_
  refine st_send Av Bv c (false, 1, 4) (dev18 c) rfl rfl rfl rfl rfl rfl (by decide) (by decide) ?_
  refine st_loadP Av Bv c 1 5 (off2_eq c 4 1) (by decide) ?_
  refine st_loadR Av Bv c 1 3 rfl (by decide) ?_
  refine st_deadS Av Bv c 1 5 rfl (by decide) fun _ => ?_
  exact st_ret c (h _)

theorem part15 (v2 v244 v266 : BitVec 32) {Q : BitVec 32 → sProp 𝕄}
    (h : ∀ (x1 : BitVec 32), St Av Bv c 4 3 16 16 0 5 0 0 0 ⊢ Q x1) :
    St Av Bv c 4 3 15 15 0 4 0 0 0 ⊢ WP c (on (k0_part15 (F := F)) c v2 v244 v266 (k0_pay22 (pacc Av Bv c 1 5 0) (up 1 (val Av Bv (peer (false, 1, 3) c) (false, 1, 3))))) Q := by
  simp only [on, k0_part15_eq_skeleton]; unfold k0_part15_skel
  simp only [semSignalWord, semWaitWord, Prog.lift, Prog.bind_op, Prog.bind_ret, Prog.pure_eq_ret, wp_deviceId]
  refine st_stage Av Bv c 1 5 rfl (pay_fwd5 Av Bv c 1) rfl rfl (by decide) ?_
  refine st_send Av Bv c (false, 1, 5) (dev19 c) rfl rfl rfl rfl rfl rfl (by decide) (by decide) ?_
  refine st_wait Av Bv c (false, 2, 1) rfl rfl (by decide) rfl rfl rfl ?_
  exact st_ret c (h _)

end Cert.KernelIdeal.Run
end
-- ==== Proof.Parts2.lean ====
/-
# The body's parts, second quarter

Each part takes the state before it to the state after it: the operations in order, one step each.
-/
module

public import proofs.«01_k».proof.Proof.Pays

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (Av : Dev nD → FVec F S1024x512 .f32) (Bv : Dev nD → FVec F S512x1024 .f32) (c : Dev nD)

theorem part16 (v2 : BitVec 32) {Q : (Σ' (v434 : BitVec 32) (v445 : BitVec 32), BitVec 32) → sProp 𝕄}
    (h : ∀ (x1 x2 x3 : BitVec 32), St Av Bv c 4 3 17 17 0 6 0 0 0 ⊢ Q ⟨x1, x2, x3⟩) :
    St Av Bv c 4 3 16 16 0 5 0 0 0 ⊢ WP c (on (k0_part16 (F := F)) c v2) Q := by
  simp only [on, k0_part16_eq_skeleton]; unfold k0_part16_skel
  simp only [semSignalWord, semWaitWord, Prog.lift, Prog.bind_op, Prog.bind_ret, Prog.pure_eq_ret, wp_deviceId]
  refine st_wait Av Bv c (false, 2, 3) rfl rfl (by decide) rfl rfl rfl ?_
  refine st_loadP Av Bv c 2 1 (off3_eq c 1 0) (by decide) ?_
  refine st_loadR Av Bv c 2 1 rfl (by decide) ?_
  refine st_deadS Av Bv c 2 4 rfl (by decide) fun _ => ?_
  refine st_stage Av Bv c 2 4 rfl (pay_fwd4 Av Bv c 2) rfl rfl (by decide) ?_
  refine st_send Av Bv c (false, 2, 4) (dev20 c) rfl rfl rfl rfl rfl rfl (by decide) (by decide) ?_
  exact st_ret c (h _ _ _)

theorem part17 (v2 v145 v445 c3_i32_446 : BitVec 32) {Q : BitVec 32 → sProp 𝕄}
    (h : ∀ (x1 : BitVec 32), St Av Bv c 4 3 18 18 0 6 0 0 0 ⊢ Q x1) :
    St Av Bv c 4 3 17 17 0 6 0 0 0 ⊢ WP c (on (k0_part17 (F := F)) c v2 v145 v445 c3_i32_446) Q := by
  simp only [on, k0_part17_eq_skeleton]; unfold k0_part17_skel
  simp only [semSignalWord, semWaitWord, Prog.lift, Prog.bind_op, Prog.bind_ret, Prog.pure_eq_ret, wp_deviceId]
  refine st_loadP Av Bv c 2 2 (off3_eq c 1 3) (by decide) ?_
  refine st_loadR Av Bv c 2 3 rfl (by decide) ?_
  refine st_deadS Av Bv c 2 5 rfl (by decide) fun _ => ?_
  refine st_stage Av Bv c 2 5 rfl (pay_fwd5 Av Bv c 2) rfl rfl (by decide) ?_
  refine st_send Av Bv c (false, 2, 5) (dev21 c) rfl rfl rfl rfl rfl rfl (by decide) (by decide) ?_
  exact st_ret c (h _)

theorem part18 (v2 v167 : BitVec 32) {Q : (Σ' (v498 : BitVec 32) (v500 : Vec F S128x384 .f32), FVec F S128x384 .bf16) → sProp 𝕄}
    (h : ∀ (x1 : BitVec 32), St Av Bv c 4 3 18 18 0 8 1 0 0 ⊢ Q ⟨x1, (pacc Av Bv c 0 4 1), (k0_pay26 (up 0 (val Av Bv (peer (false, 0, 2) c) (false, 0, 2))))⟩) :
    St Av Bv c 4 3 18 18 0 6 0 0 0 ⊢ WP c (on (k0_part18 (F := F)) c v2 v167) Q := by
  simp only [on, k0_part18_eq_skeleton]; unfold k0_part18_skel
  simp only [semSignalWord, semWaitWord, Prog.lift, Prog.bind_op, Prog.bind_ret, Prog.pure_eq_ret, wp_deviceId]
  refine st_wait Av Bv c (false, 0, 0) rfl rfl (by decide) rfl rfl rfl ?_
  refine st_loadP Av Bv c 0 0 (off4_eq c 0) (by decide) ?_
  refine st_loadR Av Bv c 0 0 rfl (by decide) ?_
  refine st_deadP Av Bv c fun _ => ?_
  refine st_acc Av Bv c 0 0 0 (off4_eq c 0) (by decide) rfl (pay_at Av Bv c 0 0 0 0) ?_
  refine st_wait Av Bv c (false, 0, 2) rfl rfl (by decide) rfl rfl rfl ?_
  refine st_loadP Av Bv c 0 4 (off4_eq c 4) (by decide) ?_
  refine st_loadR Av Bv c 0 2 rfl (by decide) ?_
  exact st_ret c (h _)

theorem part19 (v2 v189 v211 v498 : BitVec 32) {Q : PUnit → sProp 𝕄}
    (h : St Av Bv c 4 3 18 18 0 9 3 0 0 ⊢ Q ⟨⟩) :
    St Av Bv c 4 3 18 18 0 8 1 0 0 ⊢ WP c (on (k0_part19 (F := F)) c v2 v189 v211 v498 (pacc Av Bv c 0 4 1) (k0_pay26 (up 0 (val Av Bv (peer (false, 0, 2) c) (false, 0, 2))))) Q := by
  simp only [on, k0_part19_eq_skeleton]; unfold k0_part19_skel
  simp only [semSignalWord, semWaitWord, Prog.lift, Prog.bind_op, Prog.bind_ret, Prog.pure_eq_ret, wp_deviceId]
  refine st_deadP Av Bv c fun _ => ?_
  refine st_acc Av Bv c 0 4 2 (off4_eq c 4) (by decide) rfl (pay_at Av Bv c 0 4 2 1) ?_
  refine st_wait Av Bv c (false, 1, 0) rfl rfl (by decide) rfl rfl rfl ?_
  refine st_loadP Av Bv c 1 0 (off5_eq c 0) (by decide) ?_
  refine st_loadR Av Bv c 1 0 rfl (by decide) ?_
  refine st_deadP Av Bv c fun _ => ?_
  refine st_acc Av Bv c 1 0 0 (off5_eq c 0) (by decide) rfl (pay_at Av Bv c 1 0 0 2) ?_
  exact st_ret c h

theorem part20 (v2 v233 : BitVec 32) {Q : (Σ' (v558 : BitVec 32), Vec F S128x256 .f32) → sProp 𝕄}
    (h : ∀ (x1 : BitVec 32), St Av Bv c 4 3 18 18 0 11 4 0 0 ⊢ Q ⟨x1, (pacc Av Bv c 2 0 4)⟩) :
    St Av Bv c 4 3 18 18 0 9 3 0 0 ⊢ WP c (on (k0_part20 (F := F)) c v2 v233) Q := by
  simp only [on, k0_part20_eq_skeleton]; unfold k0_part20_skel
  simp only [semSignalWord, semWaitWord, Prog.lift, Prog.bind_op, Prog.bind_ret, Prog.pure_eq_ret, wp_deviceId]
  refine st_wait Av Bv c (false, 1, 2) rfl rfl (by decide) rfl rfl rfl ?_
  refine st_loadP Av Bv c 1 1 (off5_eq c 1) (by decide) ?_
  refine st_loadR Av Bv c 1 2 rfl (by decide) ?_
  refine st_deadP Av Bv c fun _ => ?_
  refine st_acc Av Bv c 1 1 2 (off5_eq c 1) (by decide) rfl (pay_at Av Bv c 1 1 2 3) ?_
  refine st_wait Av Bv c (false, 2, 0) rfl rfl (by decide) rfl rfl rfl ?_
  refine st_loadP Av Bv c 2 0 (off6_eq c 0) (by decide) ?_
  exact st_ret c (h _)

theorem part21 (v2 v255 v330 v558 : BitVec 32) {Q : BitVec 32 → sProp 𝕄}
    (h : ∀ (x1 : BitVec 32), St Av Bv c 4 3 18 18 0 12 6 0 0 ⊢ Q x1) :
    St Av Bv c 4 3 18 18 0 11 4 0 0 ⊢ WP c (on (k0_part21 (F := F)) c v2 v255 v330 v558 (pacc Av Bv c 2 0 4)) Q := by
  simp only [on, k0_part21_eq_skeleton]; unfold k0_part21_skel
  simp only [semSignalWord, semWaitWord, Prog.lift, Prog.bind_op, Prog.bind_ret, Prog.pure_eq_ret, wp_deviceId]
  refine st_loadR Av Bv c 2 0 rfl (by decide) ?_
  refine st_deadP Av Bv c fun _ => ?_
  refine st_acc Av Bv c 2 0 0 (off6_eq c 0) (by decide) rfl (pay_at Av Bv c 2 0 0 4) ?_
  refine st_wait Av Bv c (false, 2, 2) rfl rfl (by decide) rfl rfl rfl ?_
  refine st_loadP Av Bv c 2 3 (off6_eq c 3) (by decide) ?_
  refine st_loadR Av Bv c 2 2 rfl (by decide) ?_
  refine st_deadP Av Bv c fun _ => ?_
  refine st_acc Av Bv c 2 3 2 (off6_eq c 3) (by decide) rfl (pay_at Av Bv c 2 3 2 5) ?_
  exact st_ret c (h _)

theorem part22 (v2 v589 : BitVec 32) {Q : BitVec 32 → sProp 𝕄}
    (h : ∀ (x1 : BitVec 32), St Av Bv c 4 3 19 18 0 13 6 0 0 ⊢ Q x1) :
    St Av Bv c 4 3 18 18 0 12 6 0 0 ⊢ WP c (on (k0_part22 (F := F)) c v2 v589) Q := by
  simp only [on, k0_part22_eq_skeleton]; unfold k0_part22_skel
  simp only [semSignalWord, semWaitWord, Prog.lift, Prog.bind_op, Prog.bind_ret, Prog.pure_eq_ret, wp_deviceId]
  refine st_wait Av Bv c (false, 0, 5) rfl rfl (by decide) rfl rfl rfl ?_
  refine st_loadP Av Bv c 0 4 (off1_eq c 4 0) (by decide) ?_
  refine st_loadR Av Bv c 0 5 rfl (by decide) ?_
  refine st_deadS Av Bv c 0 6 rfl (by decide) fun _ => ?_
  refine st_stage Av Bv c 0 6 rfl (pay_fwd6 Av Bv c 0) rfl rfl (by decide) ?_
  exact st_ret c (h _)

theorem part23 (v2 v394 : BitVec 32) {Q : BitVec 32 → sProp 𝕄}
    (h : ∀ (x1 : BitVec 32), St Av Bv c 4 3 20 19 0 14 6 0 0 ⊢ Q x1) :
    St Av Bv c 4 3 19 18 0 13 6 0 0 ⊢ WP c (on (k0_part23 (F := F)) c v2 v394) Q := by
  simp only [on, k0_part23_eq_skeleton]; unfold k0_part23_skel
  simp only [semSignalWord, semWaitWord, Prog.lift, Prog.bind_op, Prog.bind_ret, Prog.pure_eq_ret, wp_deviceId]
  refine st_send Av Bv c (false, 0, 6) (dev22 c) rfl rfl rfl rfl rfl rfl (by decide) (by decide) ?_
  refine st_wait Av Bv c (false, 1, 5) rfl rfl (by decide) rfl rfl rfl ?_
  refine st_loadP Av Bv c 1 1 (off2_eq c 1 0) (by decide) ?_
  refine st_loadR Av Bv c 1 5 rfl (by decide) ?_
  refine st_deadS Av Bv c 1 6 rfl (by decide) fun _ => ?_
  refine st_stage Av Bv c 1 6 rfl (pay_fwd6 Av Bv c 1) rfl rfl (by decide) ?_
  exact st_ret c (h _)

theorem part24 (v2 v458 : BitVec 32) {Q : BitVec 32 → sProp 𝕄}
    (h : ∀ (x1 : BitVec 32), St Av Bv c 4 3 21 20 0 15 6 0 0 ⊢ Q x1) :
    St Av Bv c 4 3 20 19 0 14 6 0 0 ⊢ WP c (on (k0_part24 (F := F)) c v2 v458) Q := by
  simp only [on, k0_part24_eq_skeleton]; unfold k0_part24_skel
  simp only [semSignalWord, semWaitWord, Prog.lift, Prog.bind_op, Prog.bind_ret, Prog.pure_eq_ret, wp_deviceId]
  refine st_send Av Bv c (false, 1, 6) (dev23 c) rfl rfl rfl rfl rfl rfl (by decide) (by decide) ?_
  refine st_wait Av Bv c (false, 2, 5) rfl rfl (by decide) rfl rfl rfl ?_
  refine st_loadP Av Bv c 2 3 (off3_eq c 3 0) (by decide) ?_
  refine st_loadR Av Bv c 2 5 rfl (by decide) ?_
  refine st_deadS Av Bv c 2 6 rfl (by decide) fun _ => ?_
  refine st_stage Av Bv c 2 6 rfl (pay_fwd6 Av Bv c 2) rfl rfl (by decide) ?_
  exact st_ret c (h _)

theorem part25 (v2 v306 v674 : BitVec 32) {Q : (Σ' (v700 : FVec F S128x384 .f32), Vec F S128x384 .f32) → sProp 𝕄}
    (h : ∀ (v702 : Vec F S128x384 .f32), St Av Bv c 4 3 21 21 0 16 6 0 0 ⊢ Q ⟨(k0_pay35 (pacc Av Bv c 0 0 6) (up 0 (val Av Bv (peer (false, 0, 4) c) (false, 0, 4)))), v702⟩) :
    St Av Bv c 4 3 21 20 0 15 6 0 0 ⊢ WP c (on (k0_part25 (F := F)) c v2 v306 v674) Q := by
  simp only [on, k0_part25_eq_skeleton]; unfold k0_part25_skel
  simp only [semSignalWord, semWaitWord, Prog.lift, Prog.bind_op, Prog.bind_ret, Prog.pure_eq_ret, wp_deviceId]
  refine st_send Av Bv c (false, 2, 6) (dev24 c) rfl rfl rfl rfl rfl rfl (by decide) (by decide) ?_
  refine st_wait Av Bv c (false, 0, 4) rfl rfl (by decide) rfl rfl rfl ?_
  refine st_loadP Av Bv c 0 0 (off4_eq c 0) (by decide) ?_
  refine st_loadR Av Bv c 0 4 rfl (by decide) ?_
  refine st_deadP Av Bv c fun v702 => ?_
  exact st_ret c (h v702)

theorem part26 (v2 v370 v434 : BitVec 32) (v702 : Vec F S128x384 .f32){Q : PUnit → sProp 𝕄}
    (h : St Av Bv c 4 3 21 21 0 17 8 0 0 ⊢ Q ⟨⟩) :
    St Av Bv c 4 3 21 21 0 16 6 0 0 ⊢ WP c (on (k0_part26 (F := F)) c v2 v370 v434 (k0_pay35 (pacc Av Bv c 0 0 6) (up 0 (val Av Bv (peer (false, 0, 4) c) (false, 0, 4)))) v702) Q := by
  simp only [on, k0_part26_eq_skeleton]; unfold k0_part26_skel
  simp only [semSignalWord, semWaitWord, Prog.lift, Prog.bind_op, Prog.bind_ret, Prog.pure_eq_ret, wp_deviceId]
  refine st_acc Av Bv c 0 0 4 (off4_eq c 0) (by decide) rfl (pay_at Av Bv c 0 0 4 6) ?_
  refine st_wait Av Bv c (false, 1, 4) rfl rfl (by decide) rfl rfl rfl ?_
  refine st_loadP Av Bv c 1 0 (off5_eq c 0) (by decide) ?_
  refine st_loadR Av Bv c 1 4 rfl (by decide) ?_
  refine st_deadP Av Bv c fun _ => ?_
  refine st_acc Av Bv c 1 0 4 (off5_eq c 0) (by decide) rfl (pay_at Av Bv c 1 0 4 7) ?_
  exact st_ret c h

theorem part27 (v2 v610 : BitVec 32) {Q : (Σ' (v753 : BitVec 32), FVec F S128x384 .f32) → sProp 𝕄}
    (h : ∀ (x1 : BitVec 32), St Av Bv c 4 3 21 21 0 19 9 0 0 ⊢ Q ⟨x1, (k0_pay39 (pacc Av Bv c 0 0 9) (up 0 (val Av Bv (peer (false, 0, 6) c) (false, 0, 6))))⟩) :
    St Av Bv c 4 3 21 21 0 17 8 0 0 ⊢ WP c (on (k0_part27 (F := F)) c v2 v610) Q := by
  simp only [on, k0_part27_eq_skeleton]; unfold k0_part27_skel
  simp only [semSignalWord, semWaitWord, Prog.lift, Prog.bind_op, Prog.bind_ret, Prog.pure_eq_ret, wp_deviceId]
  refine st_wait Av Bv c (false, 2, 4) rfl rfl (by decide) rfl rfl rfl ?_
  refine st_loadP Av Bv c 2 0 (off6_eq c 0) (by decide) ?_
  refine st_loadR Av Bv c 2 4 rfl (by decide) ?_
  refine st_deadP Av Bv c fun _ => ?_
  refine st_acc Av Bv c 2 0 4 (off6_eq c 0) (by decide) rfl (pay_at Av Bv c 2 0 4 8) ?_
  refine st_wait Av Bv c (false, 0, 6) rfl rfl (by decide) rfl rfl rfl ?_
  refine st_loadP Av Bv c 0 0 (off7_eq c) (by decide) ?_
  refine st_loadR Av Bv c 0 6 rfl (by decide) ?_
  exact st_ret c (h _)

theorem part28 (v2 v753 : BitVec 32) {Q : (Σ' (v771 : BitVec 32), BitVec 32) → sProp 𝕄}
    (h : ∀ (x1 x2 : BitVec 32), St Av Bv c 4 3 24 22 0 19 9 1 1 ⊢ Q ⟨x1, x2⟩) :
    St Av Bv c 4 3 21 21 0 19 9 0 0 ⊢ WP c (on (k0_part28 (F := F)) c v2 v753 (k0_pay39 (pacc Av Bv c 0 0 9) (up 0 (val Av Bv (peer (false, 0, 6) c) (false, 0, 6))))) Q := by
  simp only [on, k0_part28_eq_skeleton]; unfold k0_part28_skel
  simp only [semSignalWord, semWaitWord, Prog.lift, Prog.bind_op, Prog.bind_ret, Prog.pure_eq_ret, wp_deviceId]
  refine st_deadO Av Bv c fun _ => ?_
  refine st_outW Av Bv c 0 0 (off7_eq c) rfl rfl (pay_own Av Bv c 0) ?_
  refine st_deadG Av Bv c 0 (off8_eq c) (by decide) fun _ => ?_
  refine st_storeG Av Bv c 0 (off8_eq c) (pay_gather Av Bv c 0) rfl rfl rfl rfl (by decide) ?_
  refine st_send Av Bv c (true, 0, 0) (dev25 c) (gch_eq 0 (off9_eq c 0)) (gch_eq 0 (off9_eq c 0)) rfl rfl rfl rfl (by decide) (by decide) ?_
  exact st_ret c (h _ _)

end Cert.KernelIdeal.Run
end
-- ==== Proof.Parts3.lean ====
/-
# The body's parts, third quarter

Each part takes the state before it to the state after it: the operations in order, one step each.
-/
module

public import proofs.«01_k».proof.Proof.Pays

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (Av : Dev nD → FVec F S1024x512 .f32) (Bv : Dev nD → FVec F S512x1024 .f32) (c : Dev nD)

theorem part29 (v2 v642 : BitVec 32) {Q : (Σ' (v793 : BitVec 32), FVec F S128x384 .f32) → sProp 𝕄}
    (h : ∀ (x1 : BitVec 32), St Av Bv c 4 3 24 24 0 20 9 1 1 ⊢ Q ⟨x1, (k0_pay41 (pacc Av Bv c 1 0 9) (up 1 (val Av Bv (peer (false, 1, 6) c) (false, 1, 6))))⟩) :
    St Av Bv c 4 3 24 22 0 19 9 1 1 ⊢ WP c (on (k0_part29 (F := F)) c v2 v642) Q := by
  simp only [on, k0_part29_eq_skeleton]; unfold k0_part29_skel
  simp only [semSignalWord, semWaitWord, Prog.lift, Prog.bind_op, Prog.bind_ret, Prog.pure_eq_ret, wp_deviceId]
  refine st_send Av Bv c (true, 0, 1) (dev26 c) (gch_eq 0 (off9_eq c 0)) (gch_eq 0 (off9_eq c 0)) rfl rfl rfl rfl (by decide) (by decide) ?_
  refine st_send Av Bv c (true, 0, 3) (dev27 c) (gch_eq 0 (off9_eq c 0)) (gch_eq 0 (off9_eq c 0)) rfl rfl rfl rfl (by decide) (by decide) ?_
  refine st_wait Av Bv c (false, 1, 6) rfl rfl (by decide) rfl rfl rfl ?_
  refine st_loadP Av Bv c 1 0 (off10_eq c) (by decide) ?_
  refine st_loadR Av Bv c 1 6 rfl (by decide) ?_
  exact st_ret c (h _)

theorem part30 (v2 : BitVec 32) {Q : (Σ' (v830 : BitVec 32), BitVec 32) → sProp 𝕄}
    (h : ∀ (x1 x2 : BitVec 32), St Av Bv c 4 3 27 26 0 20 9 2 2 ⊢ Q ⟨x1, x2⟩) :
    St Av Bv c 4 3 24 24 0 20 9 1 1 ⊢ WP c (on (k0_part30 (F := F)) c v2 (k0_pay41 (pacc Av Bv c 1 0 9) (up 1 (val Av Bv (peer (false, 1, 6) c) (false, 1, 6))))) Q := by
  simp only [on, k0_part30_eq_skeleton]; unfold k0_part30_skel
  simp only [semSignalWord, semWaitWord, Prog.lift, Prog.bind_op, Prog.bind_ret, Prog.pure_eq_ret, wp_deviceId]
  refine st_deadO Av Bv c fun _ => ?_
  refine st_outW Av Bv c 1 0 (off10_eq c) rfl rfl (pay_own Av Bv c 1) ?_
  refine st_deadG Av Bv c 1 (off8_eq c) (by decide) fun _ => ?_
  refine st_storeG Av Bv c 1 (off8_eq c) (pay_gather Av Bv c 1) rfl rfl rfl rfl (by decide) ?_
  refine st_send Av Bv c (true, 1, 0) (dev28 c) (gch_eq 1 (off9_eq c 0)) (gch_eq 1 (off9_eq c 0)) rfl rfl rfl rfl (by decide) (by decide) ?_
  refine st_send Av Bv c (true, 1, 1) (dev29 c) (gch_eq 1 (off9_eq c 0)) (gch_eq 1 (off9_eq c 0)) rfl rfl rfl rfl (by decide) (by decide) ?_
  exact st_ret c (h _ _)

theorem part31 (v2 v674 : BitVec 32) {Q : (Σ' (v852 : BitVec 32), FVec F S128x256 .f32) → sProp 𝕄}
    (h : ∀ (x1 : BitVec 32), St Av Bv c 4 3 27 27 0 21 9 2 2 ⊢ Q ⟨x1, (k0_pay43 (pacc Av Bv c 2 0 9) (up 2 (val Av Bv (peer (false, 2, 6) c) (false, 2, 6))))⟩) :
    St Av Bv c 4 3 27 26 0 20 9 2 2 ⊢ WP c (on (k0_part31 (F := F)) c v2 v674) Q := by
  simp only [on, k0_part31_eq_skeleton]; unfold k0_part31_skel
  simp only [semSignalWord, semWaitWord, Prog.lift, Prog.bind_op, Prog.bind_ret, Prog.pure_eq_ret, wp_deviceId]
  refine st_send Av Bv c (true, 1, 3) (dev30 c) (gch_eq 1 (off9_eq c 0)) (gch_eq 1 (off9_eq c 0)) rfl rfl rfl rfl (by decide) (by decide) ?_
  refine st_wait Av Bv c (false, 2, 6) rfl rfl (by decide) rfl rfl rfl ?_
  refine st_loadP Av Bv c 2 0 (off11_eq c) (by decide) ?_
  refine st_loadR Av Bv c 2 6 rfl (by decide) ?_
  exact st_ret c (h _)

theorem part32 (v2 : BitVec 32) {Q : (Σ' (v889 : BitVec 32) (v900 : BitVec 32), BitVec 32) → sProp 𝕄}
    (h : ∀ (x1 x2 x3 : BitVec 32), St Av Bv c 4 3 30 29 0 21 9 3 3 ⊢ Q ⟨x1, x2, x3⟩) :
    St Av Bv c 4 3 27 27 0 21 9 2 2 ⊢ WP c (on (k0_part32 (F := F)) c v2 (k0_pay43 (pacc Av Bv c 2 0 9) (up 2 (val Av Bv (peer (false, 2, 6) c) (false, 2, 6))))) Q := by
  simp only [on, k0_part32_eq_skeleton]; unfold k0_part32_skel
  simp only [semSignalWord, semWaitWord, Prog.lift, Prog.bind_op, Prog.bind_ret, Prog.pure_eq_ret, wp_deviceId]
  refine st_deadO Av Bv c fun _ => ?_
  refine st_outW Av Bv c 2 0 (off11_eq c) rfl rfl (pay_own Av Bv c 2) ?_
  refine st_deadG Av Bv c 2 (off12_eq c) (by decide) fun _ => ?_
  refine st_storeG Av Bv c 2 (off12_eq c) (pay_gather Av Bv c 2) rfl rfl rfl rfl (by decide) ?_
  refine st_send Av Bv c (true, 2, 0) (dev31 c) (gch_eq 2 (off13_eq c 0)) (gch_eq 2 (off13_eq c 0)) rfl rfl rfl rfl (by decide) (by decide) ?_
  refine st_send Av Bv c (true, 2, 1) (dev32 c) (gch_eq 2 (off13_eq c 0)) (gch_eq 2 (off13_eq c 0)) rfl rfl rfl rfl (by decide) (by decide) ?_
  exact st_ret c (h _ _ _)

theorem part33 (v2 v771 c4_i32_893 : BitVec 32) {Q : (Σ' (v911 : BitVec 32), BitVec 32) → sProp 𝕄}
    (h : ∀ (x1 x2 : BitVec 32), St Av Bv c 4 3 32 30 0 22 9 3 3 ⊢ Q ⟨x1, x2⟩) :
    St Av Bv c 4 3 30 29 0 21 9 3 3 ⊢ WP c (on (k0_part33 (F := F)) c v2 v771 c4_i32_893) Q := by
  simp only [on, k0_part33_eq_skeleton]; unfold k0_part33_skel
  simp only [semSignalWord, semWaitWord, Prog.lift, Prog.bind_op, Prog.bind_ret, Prog.pure_eq_ret, wp_deviceId]
  refine st_send Av Bv c (true, 2, 3) (dev33 c) (gch_eq 2 (off13_eq c 0)) (gch_eq 2 (off13_eq c 0)) rfl rfl rfl rfl (by decide) (by decide) ?_
  refine st_wait2 Av Bv c 0 rfl rfl (by decide) rfl rfl rfl rfl (by decide) ?_
  exact st_ret c (h _ _)

theorem part34 (v2 v830 : BitVec 32) {Q : BitVec 32 → sProp 𝕄}
    (h : ∀ (x1 : BitVec 32), St Av Bv c 4 3 32 32 0 22 9 4 3 ⊢ Q x1) :
    St Av Bv c 4 3 32 30 0 22 9 3 3 ⊢ WP c (on (k0_part34 (F := F)) c v2 v830) Q := by
  simp only [on, k0_part34_eq_skeleton]; unfold k0_part34_skel
  simp only [semSignalWord, semWaitWord, Prog.lift, Prog.bind_op, Prog.bind_ret, Prog.pure_eq_ret, wp_deviceId]
  refine st_send Av Bv c (true, 0, 2) (dev34 c) (gch_eq 0 (off9_eq c 4)) (gch_eq 0 (off9_eq c 4)) rfl rfl rfl rfl (by decide) (by decide) ?_
  refine st_send Av Bv c (true, 0, 4) (dev35 c) (gch_eq 0 (off9_eq c 4)) (gch_eq 0 (off9_eq c 4)) rfl rfl rfl rfl (by decide) (by decide) ?_
  refine st_loadG Av Bv c 0 0 4 (off14_eq c 4) rfl (by decide) ?_
  refine st_deadO Av Bv c fun _ => ?_
  refine st_outW Av Bv c 0 4 (off4_eq c 4) rfl rfl (pay_got Av Bv c 0 4 (by decide)) ?_
  exact st_ret c (h _)

theorem part35 (v2 : BitVec 32) {Q : (Σ' (v970 : BitVec 32) (v981 : BitVec 32) (v996 : FVec F S128x384 .f32), BitVec 32) → sProp 𝕄}
    (h : ∀ (x1 x2 x3 : BitVec 32), St Av Bv c 4 3 34 34 0 23 9 4 3 ⊢ Q ⟨x1, x2, (k0_pay46 (up 1 (gval Av Bv (px 1 c) 1))), x3⟩) :
    St Av Bv c 4 3 32 32 0 22 9 4 3 ⊢ WP c (on (k0_part35 (F := F)) c v2) Q := by
  simp only [on, k0_part35_eq_skeleton]; unfold k0_part35_skel
  simp only [semSignalWord, semWaitWord, Prog.lift, Prog.bind_op, Prog.bind_ret, Prog.pure_eq_ret, wp_deviceId]
  refine st_wait2 Av Bv c 1 rfl rfl (by decide) rfl rfl rfl rfl (by decide) ?_
  refine st_send Av Bv c (true, 1, 2) (dev36 c) (gch_eq 1 (off9_eq c 1)) (gch_eq 1 (off9_eq c 1)) rfl rfl rfl rfl (by decide) (by decide) ?_
  refine st_send Av Bv c (true, 1, 4) (dev37 c) (gch_eq 1 (off9_eq c 1)) (gch_eq 1 (off9_eq c 1)) rfl rfl rfl rfl (by decide) (by decide) ?_
  refine st_loadG Av Bv c 1 0 1 (off14_eq c 1) rfl (by decide) ?_
  exact st_ret c (h _ _ _)

theorem part36 (v2 v889 v997 : BitVec 32) {Q : (Σ' (v1009 : BitVec 32), BitVec 32) → sProp 𝕄}
    (h : ∀ (x1 x2 : BitVec 32), St Av Bv c 4 3 36 35 0 24 9 5 3 ⊢ Q ⟨x1, x2⟩) :
    St Av Bv c 4 3 34 34 0 23 9 4 3 ⊢ WP c (on (k0_part36 (F := F)) c v2 v889 (k0_pay46 (up 1 (gval Av Bv (px 1 c) 1))) v997) Q := by
  simp only [on, k0_part36_eq_skeleton]; unfold k0_part36_skel
  simp only [semSignalWord, semWaitWord, Prog.lift, Prog.bind_op, Prog.bind_ret, Prog.pure_eq_ret, wp_deviceId]
  refine st_deadO Av Bv c fun _ => ?_
  refine st_outW Av Bv c 1 1 (off5_eq c 1) rfl rfl (pay_got Av Bv c 1 1 (by decide)) ?_
  refine st_wait2 Av Bv c 2 rfl rfl (by decide) rfl rfl rfl rfl (by decide) ?_
  refine st_send Av Bv c (true, 2, 2) (dev38 c) (gch_eq 2 (off13_eq c 3)) (gch_eq 2 (off13_eq c 3)) rfl rfl rfl rfl (by decide) (by decide) ?_
  exact st_ret c (h _ _)

theorem part37 (v2 v782 : BitVec 32) {Q : BitVec 32 → sProp 𝕄}
    (h : ∀ (x1 : BitVec 32), St Av Bv c 4 3 37 36 0 25 9 6 3 ⊢ Q x1) :
    St Av Bv c 4 3 36 35 0 24 9 5 3 ⊢ WP c (on (k0_part37 (F := F)) c v2 v782) Q := by
  simp only [on, k0_part37_eq_skeleton]; unfold k0_part37_skel
  simp only [semSignalWord, semWaitWord, Prog.lift, Prog.bind_op, Prog.bind_ret, Prog.pure_eq_ret, wp_deviceId]
  refine st_send Av Bv c (true, 2, 4) (dev39 c) (gch_eq 2 (off13_eq c 3)) (gch_eq 2 (off13_eq c 3)) rfl rfl rfl rfl (by decide) (by decide) ?_
  refine st_loadG Av Bv c 2 0 3 (off15_eq c 3) rfl (by decide) ?_
  refine st_deadO Av Bv c fun _ => ?_
  refine st_outW Av Bv c 2 3 (off6_eq c 3) rfl rfl (pay_got Av Bv c 2 3 (by decide)) ?_
  refine st_wait1 Av Bv c 0 1 5 rfl rfl (by decide) rfl rfl rfl (by decide) rfl rfl rfl (by decide) ?_
  exact st_ret c (h _)

theorem part38 (v2 v841 : BitVec 32) {Q : BitVec 32 → sProp 𝕄}
    (h : ∀ (x1 : BitVec 32), St Av Bv c 4 3 38 37 0 26 9 7 3 ⊢ Q x1) :
    St Av Bv c 4 3 37 36 0 25 9 6 3 ⊢ WP c (on (k0_part38 (F := F)) c v2 v841) Q := by
  simp only [on, k0_part38_eq_skeleton]; unfold k0_part38_skel
  simp only [semSignalWord, semWaitWord, Prog.lift, Prog.bind_op, Prog.bind_ret, Prog.pure_eq_ret, wp_deviceId]
  refine st_send Av Bv c (true, 0, 5) (dev40 c) (gch_eq 0 (off9_eq c 3)) (gch_eq 0 (off9_eq c 3)) rfl rfl rfl rfl (by decide) (by decide) ?_
  refine st_loadG Av Bv c 0 1 3 (off14_eq c 3) rfl (by decide) ?_
  refine st_deadO Av Bv c fun _ => ?_
  refine st_outW Av Bv c 0 3 (off4_eq c 3) rfl rfl (pay_got Av Bv c 0 3 (by decide)) ?_
  refine st_wait1 Av Bv c 1 1 5 rfl rfl (by decide) rfl rfl rfl (by decide) rfl rfl rfl (by decide) ?_
  exact st_ret c (h _)

theorem part39 (v2 v900 : BitVec 32) {Q : BitVec 32 → sProp 𝕄}
    (h : ∀ (x1 : BitVec 32), St Av Bv c 4 3 39 38 0 27 9 8 3 ⊢ Q x1) :
    St Av Bv c 4 3 38 37 0 26 9 7 3 ⊢ WP c (on (k0_part39 (F := F)) c v2 v900) Q := by
  simp only [on, k0_part39_eq_skeleton]; unfold k0_part39_skel
  simp only [semSignalWord, semWaitWord, Prog.lift, Prog.bind_op, Prog.bind_ret, Prog.pure_eq_ret, wp_deviceId]
  refine st_send Av Bv c (true, 1, 5) (dev41 c) (gch_eq 1 (off9_eq c 4)) (gch_eq 1 (off9_eq c 4)) rfl rfl rfl rfl (by decide) (by decide) ?_
  refine st_loadG Av Bv c 1 1 4 (off14_eq c 4) rfl (by decide) ?_
  refine st_deadO Av Bv c fun _ => ?_
  refine st_outW Av Bv c 1 4 (off5_eq c 4) rfl rfl (pay_got Av Bv c 1 4 (by decide)) ?_
  refine st_wait1 Av Bv c 2 1 5 rfl rfl (by decide) rfl rfl rfl (by decide) rfl rfl rfl (by decide) ?_
  exact st_ret c (h _)

theorem part40 (v2 v931 : BitVec 32) {Q : BitVec 32 → sProp 𝕄}
    (h : ∀ (x1 : BitVec 32), St Av Bv c 4 3 40 39 0 28 9 9 3 ⊢ Q x1) :
    St Av Bv c 4 3 39 38 0 27 9 8 3 ⊢ WP c (on (k0_part40 (F := F)) c v2 v931) Q := by
  simp only [on, k0_part40_eq_skeleton]; unfold k0_part40_skel
  simp only [semSignalWord, semWaitWord, Prog.lift, Prog.bind_op, Prog.bind_ret, Prog.pure_eq_ret, wp_deviceId]
  refine st_send Av Bv c (true, 2, 5) (dev42 c) (gch_eq 2 (off13_eq c 1)) (gch_eq 2 (off13_eq c 1)) rfl rfl rfl rfl (by decide) (by decide) ?_
  refine st_loadG Av Bv c 2 1 1 (off15_eq c 1) rfl (by decide) ?_
  refine st_deadO Av Bv c fun _ => ?_
  refine st_outW Av Bv c 2 1 (off6_eq c 1) rfl rfl (pay_got Av Bv c 2 1 (by decide)) ?_
  refine st_wait1 Av Bv c 0 2 6 rfl rfl (by decide) rfl rfl rfl (by decide) rfl rfl rfl (by decide) ?_
  exact st_ret c (h _)

theorem part41 (v2 v970 : BitVec 32) {Q : BitVec 32 → sProp 𝕄}
    (h : ∀ (x1 : BitVec 32), St Av Bv c 4 3 41 40 0 29 9 10 3 ⊢ Q x1) :
    St Av Bv c 4 3 40 39 0 28 9 9 3 ⊢ WP c (on (k0_part41 (F := F)) c v2 v970) Q := by
  simp only [on, k0_part41_eq_skeleton]; unfold k0_part41_skel
  simp only [semSignalWord, semWaitWord, Prog.lift, Prog.bind_op, Prog.bind_ret, Prog.pure_eq_ret, wp_deviceId]
  refine st_send Av Bv c (true, 0, 6) (dev43 c) (gch_eq 0 (off9_eq c 7)) (gch_eq 0 (off9_eq c 7)) rfl rfl rfl rfl (by decide) (by decide) ?_
  refine st_loadG Av Bv c 0 2 7 (off14_eq c 7) rfl (by decide) ?_
  refine st_deadO Av Bv c fun _ => ?_
  refine st_outW Av Bv c 0 7 (off4_eq c 7) rfl rfl (pay_got Av Bv c 0 7 (by decide)) ?_
  refine st_wait1 Av Bv c 1 2 6 rfl rfl (by decide) rfl rfl rfl (by decide) rfl rfl rfl (by decide) ?_
  exact st_ret c (h _)

theorem part42 (v2 v1009 : BitVec 32) {Q : (Σ' (v1188 : BitVec 32), BitVec 32) → sProp 𝕄}
    (h : ∀ (x1 x2 : BitVec 32), St Av Bv c 4 3 42 42 0 30 9 11 3 ⊢ Q ⟨x1, x2⟩) :
    St Av Bv c 4 3 41 40 0 29 9 10 3 ⊢ WP c (on (k0_part42 (F := F)) c v2 v1009) Q := by
  simp only [on, k0_part42_eq_skeleton]; unfold k0_part42_skel
  simp only [semSignalWord, semWaitWord, Prog.lift, Prog.bind_op, Prog.bind_ret, Prog.pure_eq_ret, wp_deviceId]
  refine st_send Av Bv c (true, 1, 6) (dev44 c) (gch_eq 1 (off9_eq c 5)) (gch_eq 1 (off9_eq c 5)) rfl rfl rfl rfl (by decide) (by decide) ?_
  refine st_loadG Av Bv c 1 2 5 (off14_eq c 5) rfl (by decide) ?_
  refine st_deadO Av Bv c fun _ => ?_
  refine st_outW Av Bv c 1 5 (off5_eq c 5) rfl rfl (pay_got Av Bv c 1 5 (by decide)) ?_
  refine st_wait1 Av Bv c 2 2 6 rfl rfl (by decide) rfl rfl rfl (by decide) rfl rfl rfl (by decide) ?_
  refine st_send Av Bv c (true, 2, 6) (dev45 c) (gch_eq 2 (off13_eq c 2)) (gch_eq 2 (off13_eq c 2)) rfl rfl rfl rfl (by decide) (by decide) ?_
  exact st_ret c (h _ _)

theorem part43 (v2 v793 v852 c2_i32_1175 : BitVec 32) {Q : PUnit → sProp 𝕄}
    (h : St Av Bv c 4 3 42 42 0 31 9 13 3 ⊢ Q ⟨⟩) :
    St Av Bv c 4 3 42 42 0 30 9 11 3 ⊢ WP c (on (k0_part43 (F := F)) c v2 v793 v852 c2_i32_1175) Q := by
  simp only [on, k0_part43_eq_skeleton]; unfold k0_part43_skel
  simp only [semSignalWord, semWaitWord, Prog.lift, Prog.bind_op, Prog.bind_ret, Prog.pure_eq_ret, wp_deviceId]
  refine st_loadG Av Bv c 2 2 2 (off15_eq c 2) rfl (by decide) ?_
  refine st_deadO Av Bv c fun _ => ?_
  refine st_outW Av Bv c 2 2 (off6_eq c 2) rfl rfl (pay_got Av Bv c 2 2 (by decide)) ?_
  refine st_wait Av Bv c (true, 0, 3) rfl rfl (by decide) rfl rfl rfl ?_
  refine st_loadG Av Bv c 0 3 1 (off14_eq c 1) rfl (by decide) ?_
  refine st_deadO Av Bv c fun _ => ?_
  refine st_outW Av Bv c 0 1 (off4_eq c 1) rfl rfl (pay_got Av Bv c 0 1 (by decide)) ?_
  exact st_ret c h

end Cert.KernelIdeal.Run
end
-- ==== Proof.Parts4.lean ====
/-
# The body's parts, last quarter

Each part takes the state before it to the state after it: the operations in order, one step each.
-/
module

public import proofs.«01_k».proof.Proof.Pays

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (Av : Dev nD → FVec F S1024x512 .f32) (Bv : Dev nD → FVec F S512x1024 .f32) (c : Dev nD)

theorem part44 (v2 v911 v942 : BitVec 32) {Q : PUnit → sProp 𝕄}
    (h : St Av Bv c 4 3 42 42 0 33 9 15 3 ⊢ Q ⟨⟩) :
    St Av Bv c 4 3 42 42 0 31 9 13 3 ⊢ WP c (on (k0_part44 (F := F)) c v2 v911 v942) Q := by
  simp only [on, k0_part44_eq_skeleton]; unfold k0_part44_skel
  simp only [semSignalWord, semWaitWord, Prog.lift, Prog.bind_op, Prog.bind_ret, Prog.pure_eq_ret, wp_deviceId]
  refine st_wait Av Bv c (true, 1, 3) rfl rfl (by decide) rfl rfl rfl ?_
  refine st_loadG Av Bv c 1 3 3 (off14_eq c 3) rfl (by decide) ?_
  refine st_deadO Av Bv c fun _ => ?_
  refine st_outW Av Bv c 1 3 (off5_eq c 3) rfl rfl (pay_got Av Bv c 1 3 (by decide)) ?_
  refine st_wait Av Bv c (true, 2, 3) rfl rfl (by decide) rfl rfl rfl ?_
  refine st_loadG Av Bv c 2 3 4 (off15_eq c 4) rfl (by decide) ?_
  refine st_deadO Av Bv c fun _ => ?_
  refine st_outW Av Bv c 2 4 (off6_eq c 4) rfl rfl (pay_got Av Bv c 2 4 (by decide)) ?_
  exact st_ret c h

theorem part45 (v2 v981 : BitVec 32) {Q : PUnit → sProp 𝕄}
    (h : St Av Bv c 4 3 42 42 0 35 9 17 3 ⊢ Q ⟨⟩) :
    St Av Bv c 4 3 42 42 0 33 9 15 3 ⊢ WP c (on (k0_part45 (F := F)) c v2 v981) Q := by
  simp only [on, k0_part45_eq_skeleton]; unfold k0_part45_skel
  simp only [semSignalWord, semWaitWord, Prog.lift, Prog.bind_op, Prog.bind_ret, Prog.pure_eq_ret, wp_deviceId]
  refine st_wait Av Bv c (true, 0, 4) rfl rfl (by decide) rfl rfl rfl ?_
  refine st_loadG Av Bv c 0 4 5 (off14_eq c 5) rfl (by decide) ?_
  refine st_deadO Av Bv c fun _ => ?_
  refine st_outW Av Bv c 0 5 (off4_eq c 5) rfl rfl (pay_got Av Bv c 0 5 (by decide)) ?_
  refine st_wait Av Bv c (true, 1, 4) rfl rfl (by decide) rfl rfl rfl ?_
  refine st_loadG Av Bv c 1 4 2 (off14_eq c 2) rfl (by decide) ?_
  refine st_deadO Av Bv c fun _ => ?_
  refine st_outW Av Bv c 1 2 (off5_eq c 2) rfl rfl (pay_got Av Bv c 1 2 (by decide)) ?_
  exact st_ret c h

theorem part46 (v2 v1020 v1048 : BitVec 32) {Q : (Σ' (v1315 : FVec F S128x384 .f32), BitVec 32) → sProp 𝕄}
    (h : ∀ (x1 : BitVec 32), St Av Bv c 4 3 42 42 0 37 9 18 3 ⊢ Q ⟨(k0_pay60 (up 0 (gval Av Bv (px 2 c) 0))), x1⟩) :
    St Av Bv c 4 3 42 42 0 35 9 17 3 ⊢ WP c (on (k0_part46 (F := F)) c v2 v1020 v1048) Q := by
  simp only [on, k0_part46_eq_skeleton]; unfold k0_part46_skel
  simp only [semSignalWord, semWaitWord, Prog.lift, Prog.bind_op, Prog.bind_ret, Prog.pure_eq_ret, wp_deviceId]
  refine st_wait Av Bv c (true, 2, 4) rfl rfl (by decide) rfl rfl rfl ?_
  refine st_loadG Av Bv c 2 4 7 (off15_eq c 7) rfl (by decide) ?_
  refine st_deadO Av Bv c fun _ => ?_
  refine st_outW Av Bv c 2 7 (off6_eq c 7) rfl rfl (pay_got Av Bv c 2 7 (by decide)) ?_
  refine st_wait Av Bv c (true, 0, 5) rfl rfl (by decide) rfl rfl rfl ?_
  refine st_loadG Av Bv c 0 5 2 (off14_eq c 2) rfl (by decide) ?_
  exact st_ret c (h _)

theorem part47 (v2 v1076 v1104 v1316 : BitVec 32) {Q : BitVec 32 → sProp 𝕄}
    (h : ∀ (x1 : BitVec 32), St Av Bv c 4 3 42 42 0 39 9 20 3 ⊢ Q x1) :
    St Av Bv c 4 3 42 42 0 37 9 18 3 ⊢ WP c (on (k0_part47 (F := F)) c v2 v1076 v1104 (k0_pay60 (up 0 (gval Av Bv (px 2 c) 0))) v1316) Q := by
  simp only [on, k0_part47_eq_skeleton]; unfold k0_part47_skel
  simp only [semSignalWord, semWaitWord, Prog.lift, Prog.bind_op, Prog.bind_ret, Prog.pure_eq_ret, wp_deviceId]
  refine st_deadO Av Bv c fun _ => ?_
  refine st_outW Av Bv c 0 2 (off4_eq c 2) rfl rfl (pay_got Av Bv c 0 2 (by decide)) ?_
  refine st_wait Av Bv c (true, 1, 5) rfl rfl (by decide) rfl rfl rfl ?_
  refine st_loadG Av Bv c 1 5 7 (off14_eq c 7) rfl (by decide) ?_
  refine st_deadO Av Bv c fun _ => ?_
  refine st_outW Av Bv c 1 7 (off5_eq c 7) rfl rfl (pay_got Av Bv c 1 7 (by decide)) ?_
  refine st_wait Av Bv c (true, 2, 5) rfl rfl (by decide) rfl rfl rfl ?_
  exact st_ret c (h _)

theorem part48 (v2 v1132 v1160 v1343 : BitVec 32) {Q : PUnit → sProp 𝕄}
    (h : St Av Bv c 4 3 42 42 0 40 9 22 3 ⊢ Q ⟨⟩) :
    St Av Bv c 4 3 42 42 0 39 9 20 3 ⊢ WP c (on (k0_part48 (F := F)) c v2 v1132 v1160 v1343) Q := by
  simp only [on, k0_part48_eq_skeleton]; unfold k0_part48_skel
  simp only [semSignalWord, semWaitWord, Prog.lift, Prog.bind_op, Prog.bind_ret, Prog.pure_eq_ret, wp_deviceId]
  refine st_loadG Av Bv c 2 5 5 (off15_eq c 5) rfl (by decide) ?_
  refine st_deadO Av Bv c fun _ => ?_
  refine st_outW Av Bv c 2 5 (off6_eq c 5) rfl rfl (pay_got Av Bv c 2 5 (by decide)) ?_
  refine st_wait Av Bv c (true, 0, 6) rfl rfl (by decide) rfl rfl rfl ?_
  refine st_loadG Av Bv c 0 6 6 (off14_eq c 6) rfl (by decide) ?_
  refine st_deadO Av Bv c fun _ => ?_
  refine st_outW Av Bv c 0 6 (off4_eq c 6) rfl rfl (pay_got Av Bv c 0 6 (by decide)) ?_
  exact st_ret c h

theorem part49 (v2 v1188 : BitVec 32) {Q : PUnit → sProp 𝕄}
    (h : St Av Bv c 4 3 42 42 0 42 9 24 3 ⊢ Q ⟨⟩) :
    St Av Bv c 4 3 42 42 0 40 9 22 3 ⊢ WP c (on (k0_part49 (F := F)) c v2 v1188) Q := by
  simp only [on, k0_part49_eq_skeleton]; unfold k0_part49_skel
  simp only [semSignalWord, semWaitWord, Prog.lift, Prog.bind_op, Prog.bind_ret, Prog.pure_eq_ret, wp_deviceId]
  refine st_wait Av Bv c (true, 1, 6) rfl rfl (by decide) rfl rfl rfl ?_
  refine st_loadG Av Bv c 1 6 6 (off14_eq c 6) rfl (by decide) ?_
  refine st_deadO Av Bv c fun _ => ?_
  refine st_outW Av Bv c 1 6 (off5_eq c 6) rfl rfl (pay_got Av Bv c 1 6 (by decide)) ?_
  refine st_wait Av Bv c (true, 2, 6) rfl rfl (by decide) rfl rfl rfl ?_
  refine st_loadG Av Bv c 2 6 6 (off15_eq c 6) rfl (by decide) ?_
  refine st_deadO Av Bv c fun _ => ?_
  refine st_outW Av Bv c 2 6 (off6_eq c 6) rfl rfl (pay_got Av Bv c 2 6 (by decide)) ?_
  exact st_ret c h

theorem part50 {Q : PUnit → sProp 𝕄}
    (h : St Av Bv c 4 3 42 42 3 42 9 24 3 ⊢ Q ⟨⟩) :
    St Av Bv c 4 3 42 42 0 42 9 24 3 ⊢ WP c (on (k0_part50 (F := F))) Q := by
  simp only [on, k0_part50_eq_skeleton]; unfold k0_part50_skel
  simp only [semSignalWord, semWaitWord, Prog.lift, Prog.bind_op, Prog.bind_ret, Prog.pure_eq_ret, wp_deviceId]
  refine st_waitSend Av Bv c (false, 0, 0) rfl rfl rfl rfl ?_
  refine st_waitSend Av Bv c (false, 0, 1) rfl rfl rfl rfl ?_
  refine st_waitSend Av Bv c (false, 0, 2) rfl rfl rfl rfl ?_
  exact st_ret c h

theorem part51 {Q : PUnit → sProp 𝕄}
    (h : St Av Bv c 4 3 42 42 7 42 9 24 3 ⊢ Q ⟨⟩) :
    St Av Bv c 4 3 42 42 3 42 9 24 3 ⊢ WP c (on (k0_part51 (F := F))) Q := by
  simp only [on, k0_part51_eq_skeleton]; unfold k0_part51_skel
  simp only [semSignalWord, semWaitWord, Prog.lift, Prog.bind_op, Prog.bind_ret, Prog.pure_eq_ret, wp_deviceId]
  refine st_waitSend Av Bv c (false, 0, 3) rfl rfl rfl rfl ?_
  refine st_waitSend Av Bv c (false, 1, 0) rfl rfl rfl rfl ?_
  refine st_waitSend Av Bv c (false, 1, 1) rfl rfl rfl rfl ?_
  refine st_waitSend Av Bv c (false, 1, 2) rfl rfl rfl rfl ?_
  exact st_ret c h

theorem part52 {Q : PUnit → sProp 𝕄}
    (h : St Av Bv c 4 3 42 42 10 42 9 24 3 ⊢ Q ⟨⟩) :
    St Av Bv c 4 3 42 42 7 42 9 24 3 ⊢ WP c (on (k0_part52 (F := F))) Q := by
  simp only [on, k0_part52_eq_skeleton]; unfold k0_part52_skel
  simp only [semSignalWord, semWaitWord, Prog.lift, Prog.bind_op, Prog.bind_ret, Prog.pure_eq_ret, wp_deviceId]
  refine st_waitSend Av Bv c (false, 1, 3) rfl rfl rfl rfl ?_
  refine st_waitSend Av Bv c (false, 2, 0) rfl rfl rfl rfl ?_
  refine st_waitSend Av Bv c (false, 2, 1) rfl rfl rfl rfl ?_
  exact st_ret c h

theorem part53 {Q : PUnit → sProp 𝕄}
    (h : St Av Bv c 4 3 42 42 13 42 9 24 3 ⊢ Q ⟨⟩) :
    St Av Bv c 4 3 42 42 10 42 9 24 3 ⊢ WP c (on (k0_part53 (F := F))) Q := by
  simp only [on, k0_part53_eq_skeleton]; unfold k0_part53_skel
  simp only [semSignalWord, semWaitWord, Prog.lift, Prog.bind_op, Prog.bind_ret, Prog.pure_eq_ret, wp_deviceId]
  refine st_waitSend Av Bv c (false, 2, 2) rfl rfl rfl rfl ?_
  refine st_waitSend Av Bv c (false, 2, 3) rfl rfl rfl rfl ?_
  refine st_waitSend Av Bv c (false, 0, 4) rfl rfl rfl rfl ?_
  exact st_ret c h

theorem part54 {Q : PUnit → sProp 𝕄}
    (h : St Av Bv c 4 3 42 42 17 42 9 24 3 ⊢ Q ⟨⟩) :
    St Av Bv c 4 3 42 42 13 42 9 24 3 ⊢ WP c (on (k0_part54 (F := F))) Q := by
  simp only [on, k0_part54_eq_skeleton]; unfold k0_part54_skel
  simp only [semSignalWord, semWaitWord, Prog.lift, Prog.bind_op, Prog.bind_ret, Prog.pure_eq_ret, wp_deviceId]
  refine st_waitSend Av Bv c (false, 0, 5) rfl rfl rfl rfl ?_
  refine st_waitSend Av Bv c (false, 1, 4) rfl rfl rfl rfl ?_
  refine st_waitSend Av Bv c (false, 1, 5) rfl rfl rfl rfl ?_
  refine st_waitSend Av Bv c (false, 2, 4) rfl rfl rfl rfl ?_
  exact st_ret c h

theorem part55 {Q : PUnit → sProp 𝕄}
    (h : St Av Bv c 4 3 42 42 20 42 9 24 3 ⊢ Q ⟨⟩) :
    St Av Bv c 4 3 42 42 17 42 9 24 3 ⊢ WP c (on (k0_part55 (F := F))) Q := by
  simp only [on, k0_part55_eq_skeleton]; unfold k0_part55_skel
  simp only [semSignalWord, semWaitWord, Prog.lift, Prog.bind_op, Prog.bind_ret, Prog.pure_eq_ret, wp_deviceId]
  refine st_waitSend Av Bv c (false, 2, 5) rfl rfl rfl rfl ?_
  refine st_waitSend Av Bv c (false, 0, 6) rfl rfl rfl rfl ?_
  refine st_waitSend Av Bv c (false, 1, 6) rfl rfl rfl rfl ?_
  exact st_ret c h

theorem part56 {Q : PUnit → sProp 𝕄}
    (h : St Av Bv c 4 3 42 42 24 42 9 24 3 ⊢ Q ⟨⟩) :
    St Av Bv c 4 3 42 42 20 42 9 24 3 ⊢ WP c (on (k0_part56 (F := F)) c) Q := by
  simp only [on, k0_part56_eq_skeleton]; unfold k0_part56_skel
  simp only [semSignalWord, semWaitWord, Prog.lift, Prog.bind_op, Prog.bind_ret, Prog.pure_eq_ret, wp_deviceId]
  refine st_waitSend Av Bv c (false, 2, 6) rfl rfl rfl rfl ?_
  refine st_waitSend Av Bv c (true, 0, 0) rfl rfl rfl rfl ?_
  refine st_waitSend Av Bv c (true, 0, 1) rfl rfl rfl rfl ?_
  refine st_waitSend Av Bv c (true, 0, 3) rfl rfl rfl rfl ?_
  exact st_ret c h

theorem part57 {Q : PUnit → sProp 𝕄}
    (h : St Av Bv c 4 3 42 42 28 42 9 24 3 ⊢ Q ⟨⟩) :
    St Av Bv c 4 3 42 42 24 42 9 24 3 ⊢ WP c (on (k0_part57 (F := F)) c) Q := by
  simp only [on, k0_part57_eq_skeleton]; unfold k0_part57_skel
  simp only [semSignalWord, semWaitWord, Prog.lift, Prog.bind_op, Prog.bind_ret, Prog.pure_eq_ret, wp_deviceId]
  refine st_waitSend Av Bv c (true, 1, 0) rfl rfl rfl rfl ?_
  refine st_waitSend Av Bv c (true, 1, 1) rfl rfl rfl rfl ?_
  refine st_waitSend Av Bv c (true, 1, 3) rfl rfl rfl rfl ?_
  refine st_waitSend Av Bv c (true, 2, 0) rfl rfl rfl rfl ?_
  exact st_ret c h

theorem part58 {Q : PUnit → sProp 𝕄}
    (h : St Av Bv c 4 3 42 42 31 42 9 24 3 ⊢ Q ⟨⟩) :
    St Av Bv c 4 3 42 42 28 42 9 24 3 ⊢ WP c (on (k0_part58 (F := F)) c) Q := by
  simp only [on, k0_part58_eq_skeleton]; unfold k0_part58_skel
  simp only [semSignalWord, semWaitWord, Prog.lift, Prog.bind_op, Prog.bind_ret, Prog.pure_eq_ret, wp_deviceId]
  refine st_waitSend Av Bv c (true, 2, 1) rfl rfl rfl rfl ?_
  refine st_waitSend Av Bv c (true, 2, 3) rfl rfl rfl rfl ?_
  refine st_waitSend Av Bv c (true, 0, 2) rfl rfl rfl rfl ?_
  exact st_ret c h

theorem part59 {Q : PUnit → sProp 𝕄}
    (h : St Av Bv c 4 3 42 42 35 42 9 24 3 ⊢ Q ⟨⟩) :
    St Av Bv c 4 3 42 42 31 42 9 24 3 ⊢ WP c (on (k0_part59 (F := F)) c) Q := by
  simp only [on, k0_part59_eq_skeleton]; unfold k0_part59_skel
  simp only [semSignalWord, semWaitWord, Prog.lift, Prog.bind_op, Prog.bind_ret, Prog.pure_eq_ret, wp_deviceId]
  refine st_waitSend Av Bv c (true, 0, 4) rfl rfl rfl rfl ?_
  refine st_waitSend Av Bv c (true, 1, 2) rfl rfl rfl rfl ?_
  refine st_waitSend Av Bv c (true, 1, 4) rfl rfl rfl rfl ?_
  refine st_waitSend Av Bv c (true, 2, 2) rfl rfl rfl rfl ?_
  exact st_ret c h

theorem part60 {Q : PUnit → sProp 𝕄}
    (h : St Av Bv c 4 3 42 42 39 42 9 24 3 ⊢ Q ⟨⟩) :
    St Av Bv c 4 3 42 42 35 42 9 24 3 ⊢ WP c (on (k0_part60 (F := F)) c) Q := by
  simp only [on, k0_part60_eq_skeleton]; unfold k0_part60_skel
  simp only [semSignalWord, semWaitWord, Prog.lift, Prog.bind_op, Prog.bind_ret, Prog.pure_eq_ret, wp_deviceId]
  refine st_waitSend Av Bv c (true, 2, 4) rfl rfl rfl rfl ?_
  refine st_waitSend Av Bv c (true, 0, 5) rfl rfl rfl rfl ?_
  refine st_waitSend Av Bv c (true, 1, 5) rfl rfl rfl rfl ?_
  refine st_waitSend Av Bv c (true, 2, 5) rfl rfl rfl rfl ?_
  exact st_ret c h

end Cert.KernelIdeal.Run
end
-- ==== Proof.Body.lean ====
/-
# The body

The parts in turn, and the last three waits.
-/
module

public import proofs.«01_k».proof.Proof.Parts1
public import proofs.«01_k».proof.Proof.Parts2
public import proofs.«01_k».proof.Proof.Parts3
public import proofs.«01_k».proof.Proof.Parts4

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (Av : Dev nD → FVec F S1024x512 .f32) (Bv : Dev nD → FVec F S512x1024 .f32) (c : Dev nD)

theorem bind_step {α β : Type} {p : TP F α} {k : α → TP F β} {S : sProp 𝕄} {Q : β → sProp 𝕄} (h : S ⊢ WP c p (fun x => WP c (k x) Q)) :
    S ⊢ WP c (p >>= k) Q := by
  rw [WP, wp_bind]; exact h

theorem part61 {Q : Dev nD → sProp 𝕄} (h : St Av Bv c 4 3 42 42 39 42 9 24 3 ⊢ Q c) :
    St Av Bv c 0 0 0 0 0 0 0 0 0 ⊢ WP c (on (k0_part61 (F := F))) Q := by
  simp only [on, k0_part61_eq_skeleton]; unfold k0_part61_skel
  refine bind_step c (part1 Av Bv c (fun _ => ?_))
  refine bind_step c (part2 Av Bv c _ ?_)
  refine bind_step c (part3 Av Bv c _ ?_)
  refine bind_step c (part4 Av Bv c _ ?_)
  refine bind_step c (part5 Av Bv c _ (fun _ => ?_))
  refine bind_step c (part6 Av Bv c _ (fun _ _ => ?_))
  refine bind_step c (part7 Av Bv c _ (fun _ _ _ _ => ?_))
  refine bind_step c (part8 Av Bv c _ _ _ (fun _ _ => ?_))
  refine bind_step c (part9 Av Bv c _ (fun _ _ _ => ?_))
  refine bind_step c (part10 Av Bv c _ _ _ (fun _ => ?_))
  refine bind_step c (part11 Av Bv c _ _ (fun _ => ?_))
  refine bind_step c (part12 Av Bv c _ _ (fun _ => ?_))
  refine bind_step c (part13 Av Bv c _ _ _ ?_)
  refine bind_step c (part14 Av Bv c _ (fun _ => ?_))
  refine bind_step c (part15 Av Bv c _ _ _ (fun _ => ?_))
  refine bind_step c (part16 Av Bv c _ (fun _ _ _ => ?_))
  refine bind_step c (part17 Av Bv c _ _ _ _ (fun _ => ?_))
  refine bind_step c (part18 Av Bv c _ _ (fun _ => ?_))
  refine bind_step c (part19 Av Bv c _ _ _ _ ?_)
  refine bind_step c (part20 Av Bv c _ _ (fun _ => ?_))
  refine bind_step c (part21 Av Bv c _ _ _ _ (fun _ => ?_))
  refine bind_step c (part22 Av Bv c _ _ (fun _ => ?_))
  refine bind_step c (part23 Av Bv c _ _ (fun _ => ?_))
  refine bind_step c (part24 Av Bv c _ _ (fun _ => ?_))
  refine bind_step c (part25 Av Bv c _ _ _ (fun _ => ?_))
  refine bind_step c (part26 Av Bv c _ _ _ _ ?_)
  refine bind_step c (part27 Av Bv c _ _ (fun _ => ?_))
  refine bind_step c (part28 Av Bv c _ _ (fun _ _ => ?_))
  refine bind_step c (part29 Av Bv c _ _ (fun _ => ?_))
  refine bind_step c (part30 Av Bv c _ (fun _ _ => ?_))
  refine bind_step c (part31 Av Bv c _ _ (fun _ => ?_))
  refine bind_step c (part32 Av Bv c _ (fun _ _ _ => ?_))
  refine bind_step c (part33 Av Bv c _ _ _ (fun _ _ => ?_))
  refine bind_step c (part34 Av Bv c _ _ (fun _ => ?_))
  refine bind_step c (part35 Av Bv c _ (fun _ _ _ => ?_))
  refine bind_step c (part36 Av Bv c _ _ _ (fun _ _ => ?_))
  refine bind_step c (part37 Av Bv c _ _ (fun _ => ?_))
  refine bind_step c (part38 Av Bv c _ _ (fun _ => ?_))
  refine bind_step c (part39 Av Bv c _ _ (fun _ => ?_))
  refine bind_step c (part40 Av Bv c _ _ (fun _ => ?_))
  refine bind_step c (part41 Av Bv c _ _ (fun _ => ?_))
  refine bind_step c (part42 Av Bv c _ _ (fun _ _ => ?_))
  refine bind_step c (part43 Av Bv c _ _ _ _ ?_)
  refine bind_step c (part44 Av Bv c _ _ _ ?_)
  refine bind_step c (part45 Av Bv c _ _ ?_)
  refine bind_step c (part46 Av Bv c _ _ _ (fun _ => ?_))
  refine bind_step c (part47 Av Bv c _ _ _ _ (fun _ => ?_))
  refine bind_step c (part48 Av Bv c _ _ _ _ ?_)
  refine bind_step c (part49 Av Bv c _ _ ?_)
  refine bind_step c (part50 Av Bv c ?_)
  refine bind_step c (part51 Av Bv c ?_)
  refine bind_step c (part52 Av Bv c ?_)
  refine bind_step c (part53 Av Bv c ?_)
  refine bind_step c (part54 Av Bv c ?_)
  refine bind_step c (part55 Av Bv c ?_)
  refine bind_step c (part56 Av Bv c ?_)
  refine bind_step c (part57 Av Bv c ?_)
  refine bind_step c (part58 Av Bv c ?_)
  refine bind_step c (part59 Av Bv c ?_)
  refine bind_step c (part60 Av Bv c ?_)
  exact st_ret c h

theorem body_run {Q : PUnit → sProp 𝕄} (h : St Av Bv c 4 3 42 42 42 42 9 24 3 ⊢ Q ⟨⟩) :
    St Av Bv c 0 0 0 0 0 0 0 0 0 ⊢ WP c (on (cc0_body (F := F))) Q := by
  simp only [on, cc0_body_eq_skeleton]; unfold cc0_body_skel
  refine bind_step c (part61 Av Bv c ?_)
  simp only [Prog.lift, Prog.bind_op, Prog.bind_ret, Prog.pure_eq_ret]
  refine st_waitSend Av Bv c (true, 0, 6) rfl rfl rfl rfl ?_
  refine st_waitSend Av Bv c (true, 1, 6) rfl rfl rfl rfl ?_
  refine st_waitSend Av Bv c (true, 2, 6) rfl rfl rfl rfl ?_
  exact st_ret c h

end Cert.KernelIdeal.Run
end
-- ==== Proof.Run.lean ====
/-
# The run

The launch put together with the body: every device runs from what the launch deals it to its result's chunks at the
values the schedule names, its factors unchanged and every semaphore at zero.
-/
module

public import proofs.«01_k».proof.Proof.Ghost
public import proofs.«01_k».proof.Proof.Body
public import proofs.«01_k».proof.Proof.Gen.KernelIdeal.Points
public import proofs.«01_k».proof.Proof.Gen.KernelIdeal.Frame
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The result, whole -/

theorem col_of : ∀ n : Fin 1024, ∃ r : Fin 3, col r ≤ n.val ∧ n.val < col r + wid r := by
  intro n
  by_cases h : n.val < 384
  · exact ⟨0, Nat.zero_le _, by show n.val < 0 + 384; omega⟩
  by_cases h' : n.val < 768
  · exact ⟨1, by show 384 ≤ n.val; omega, by show n.val < 384 + 384; omega⟩
  · exact ⟨2, by show 768 ≤ n.val; omega, by show n.val < 768 + 256; have := n.isLt; omega⟩

/-- Every entry of the result lies in a chunk. -/
theorem chk_cover (y : S1024x1024.Idx) : ∃ p : (r : Fin 3) × (Dev nD × (SC r).Idx), (chk p.1 p.2.1).emb p.2.2 = y := by
  have h0 : (y 0).val < 1024 := (y 0).isLt
  obtain ⟨r, h1, h2⟩ := col_of ⟨(y 1).val, (y 1).isLt⟩
  have h1 : col r ≤ (y 1).val := h1
  have h2 : (y 1).val < col r + wid r := h2
  let q : Dev nD := ⟨(y 0).val / 128, by show _ < 8; omega⟩
  have hm : y ∈ (chk r q).set := by
    rw [Rect.mem_set_unit]
    intro a
    fin_cases a
    · show 128 * ((y 0).val / 128) ≤ (y 0).val ∧ (y 0).val < 128 * ((y 0).val / 128) + 128; omega
    · exact ⟨h1, h2⟩
  rw [← Rect.map_emb_univ] at hm
  obtain ⟨z, _, hz⟩ := Finset.mem_map.mp hm
  exact ⟨⟨r, q, z⟩, hz⟩

/-- The label of a device's rows, relative to another device. -/
def lbl (c q : Dev nD) : Fin 8 := ⟨(c.val ^^^ q.val) % 8, Nat.mod_lt _ (by decide)⟩
theorem px_lbl (c q : Dev nD) : px (lbl c q) c = q := by revert c q; decide +kernel

section Out
variable (Av : Dev nD → FVec F S1024x512 .f32) (Bv : Dev nD → FVec F S512x1024 .f32) (c : Dev nD)

/-- The result on a device. -/
def outAt : FVec F S1024x1024 .f32 := fun y =>
  oval Av Bv c (Classical.choose (chk_cover y)).1 (lbl c (Classical.choose (chk_cover y)).2.1) (Classical.choose (chk_cover y)).2.2

theorem out_eq (f : FVec F S1024x1024 .f32) (h : OutOK Av Bv c 24 f) : f = outAt Av Bv c := by
  funext y
  have hy := Classical.choose_spec (chk_cover y)
  unfold outAt
  generalize Classical.choose (chk_cover y) = p at hy ⊢
  obtain ⟨r, q, z⟩ := p
  have := congrFun (h r (lbl c q) (ox_lt _ _)) z
  rw [px_lbl] at this
  exact (congrArg f hy).symm.trans this
end Out

/-! ## The proof's data -/

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-- A device's factors. -/
def inA (c : Dev nD) : FVec F S1024x512 .f32 := (win0_0.blk (0 : Fin 1)).view.read (Elt F) (m ((c : Thread nD τ).loc main_arg0))
def inB (c : Dev nD) : FVec F S512x1024 .f32 := (win0_1.blk (0 : Fin 1)).view.read (Elt F) (m ((c : Thread nD τ).loc main_arg1))

def Φ₀ (c : Dev nD) : sProp 𝕄 := iprop(start (inA m) (inB m) c ∗ scr (F := F) c)
def Φ₁ (c : Dev nD) : sProp 𝕄 := iprop(semVal (barCell c) 0 ∗ sems (F := F) c ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inA m c
    | ⟨1, _⟩ => inB m c
    | ⟨2, _⟩ => outAt (inA m) (inB m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ
    ∗ stg c cc0_stg0_0 (inA m c) ∗ stg c cc0_stg1_0 (inB m c) ∗ stg c cc0_stg2_0 (outAt (inA m) (inB m) c))

theorem pre_st (c : Dev nD) : bodyPre m ρ c ⊢ St (inA m) (inB m) c 0 0 0 0 0 0 0 0 0 := by
  unfold bodyPre Φ₀ Dat.owesAt Pipeline.owesWithin
  iintro ⟨⟨Hs, Hb⟩, ⟨%W, %hW, HO⟩, ⟨%d0, %g0, %h0, H0⟩, ⟨%d1, %g1, %h1, H1⟩, ⟨%d2, %g2, %h2, H2⟩⟩
  have h0 : g0 = inA m c := by rw [h0]; unfold Dat.before; rw [if_pos (fetch0_0 t0_0)]; rfl
  have h1 : g1 = inB m c := by rw [h1]; unfold Dat.before; rw [if_pos (fetch0_1 t0_0)]; rfl
  subst h0 h1
  iapply (st_start (inA m) (inB m) c W g2)
  isplitl [Hs]; · iexact Hs
  isplitl [Hb]; · iexact Hb
  isplitl [HO]; · iexact HO
  isplitl [H0 H1]
  · unfold InS; isplitl [H0] <;> iassumption
  iexact H2

theorem st_post (c : Dev nD) : St (inA m) (inB m) c 4 3 42 42 42 42 9 24 3 ⊢ bodyPost m ρ c := by
  refine (st_exit (inA m) (inB m) c).trans ?_
  unfold bodyPost Φ₁ InS OutS Dat.owesAt Pipeline.owesWithin
  rw [show (dats m ρ 0 c).owed t0_0.succ = 0 from rfl]
  iintro ⟨⟨%W, HO⟩, HB, HS, HR, ⟨H0, H1⟩, ⟨%f, %hf, H2⟩⟩
  isplitl [HB HS HR]
  · isplitl [HB]; · iexact HB
    isplitl [HS] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists f
  isplitr; · ipureintro; exact out_eq _ _ c f hf
  iexact H2

set_option maxRecDepth 20000 in
/-- The body's obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (on (cc0_body (F := F))) (fun _ => bodyPost m ρ c)
  exact (pre_st m ρ c).trans (body_run (inA m) (inB m) c (st_post m ρ c))

/-! ## The launch -/

theorem ownSemFacts : Pipeline.OwnSemFacts cfg0.spec osem where
  isScoped := by decide +kernel
  inj := fun a b h => Option.some.inj (csem_inj h)
  disj := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inA m) (inB m) c)
      ⊢ |={Set.univ}=> iprop(start (inA m) (inB m) c ∗ emp) := by
  iintro ⟨-, Hlev, Hcr, -, HG⟩
  ihave Hc := (creds (F := F) c) $$ Hcr
  icases Hc with ⟨H1, H2⟩
  imodintro
  unfold start
  isplitl
  · isplitl [HG]; · iexact HG
    isplitl [H1]; · iexact H1
    isplitl [H2] <;> iassumption
  · iempintro

theorem phi0_intro (c : Dev nD) :
    iprop(start (inA m) (inB m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (Entails.of_eq (scr_eq (F := F) c).symm) $$ Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁
  refine sep_mono_right ?_
  rw [scr_eq]; rfl

theorem stage_free : ∀ (w : Fin cfg0.W) (s : Fin (cfg0.win w).nbuf), undo (.dma ((cfg0.win w).sem s)) = none := by decide +kernel

theorem waits (c : Dev nD) : (levAts L lv : sProp 𝕄) ⊢ Pipeline.cellsWaits cfgs (dats m ρ) () 0 c :=
  Pipeline.cellsWaits_intro cfgs (dats m ρ) () 0 c fun w s t => by
    have hl : lvOf (undo (.dma ((cfg0.win w).sem s))) ≤ 0 := by rw [stage_free]; exact Nat.le_refl _
    have h2 : ∀ i : Tx, 0 < lvl i := by decide +kernel
    rcases t with ⟨_ | _, ht⟩
    · exact mayWait c _ 0 0 0 hl (fun _ => Nat.one_pos) fun i _ => h2 i
    · have h := mayWait (F := F) c (.dma ((cfg0.win w).sem s)) 4 42 0 hl (fun h => by omega) fun i _ => h2 i
      rw [Ow_done] at h
      exact h

/-- Each device's arrays as the run leaves them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- Over any float values and from any memory, every fair execution ends, with each device's arrays as `finalA` has them and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inA m) (inB m)) (G' := G' (inA m) (inB m)) (u₀ := u₀)
    (hu₀ := by
      unfold u₀
      iintro Hu
      ihave H := (ownU_pair _ _) $$ Hu
      icases H with ⟨HP, HX⟩
      imod (fund (inA m) (inB m)) $$ HX with HG
      imodintro
      isplitl [HP] <;> iassumption)
    (hglob := glob (inA m) (inB m))
    (hA := fun _ _ => rfl) (hpf := fun _ k => k.elim0)
    (X := start (inA m) (inB m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The factors after the run hold what they held. -/
theorem finalA_0 (c : Dev nD) : finalA m ρ c (0 : Fin 3) = (s₀ m ρ).mem (win0_0.arr.view.loc (c : Thread nD τ)) :=
  (dats (F := F) m ρ 0 c).arrAt_in (0 : Fin 3) rfl _
theorem finalA_1 (c : Dev nD) : finalA m ρ c (1 : Fin 3) = (s₀ m ρ).mem (win0_1.arr.view.loc (c : Thread nD τ)) :=
  (dats (F := F) m ρ 0 c).arrAt_in (1 : Fin 3) rfl _

end Cert.KernelIdeal.Run
end
-- ==== Proof.Value.lean ====
/-
# The value, in exact arithmetic

In exact arithmetic the exchanges lose nothing: every chunk of the result holds the sum of all eight partial products,
put through the activation, and that is what one device computes from the whole factors.
-/
module

public import proofs.«01_k».proof.Proof.Run
public import proofs.«01_k».proof.Proof.Gen.ReferenceIdeal
public import proofs.«01_k».proof.Proof.Gen.ReferenceIdeal.Run
public import Idealize.ShloMosaic.Lib.Pointwise
public import Idealize.ShloMosaic.Lib.Pipeline.ValueKit.Acc

@[expose] public section

noncomputable section

namespace Cert.KernelIdeal.Run

open Cert.KernelIdeal Cert.KernelIdeal.Gen
open Idealize.ShloMosaic
open Idealize.ShloMosaic.TcCoe
open Idealize.SL.Sem

/-! ## One partial product at an entry -/

section Dots
variable (Av : Dev nD → FVec Ideal S1024x512 .f32) (Bv : Dev nD → FVec Ideal S512x1024 .f32)

/-- An entry of a device's partial product. -/
def prt (d : Dev nD) (y : S1024x1024.Idx) : EReal := ∑ k : Fin 512, Av d (ix2 (y 0) k) * Bv d (ix2 k (y 1))

theorem emb_row (r : Fin 3) (q : Dev nD) (x : (SC r).Idx) : (row r q).emb x 0 = (chk r q).emb x 0 := Fin.ext rfl
theorem emb_col (r : Fin 3) (q : Dev nD) (x : (SC r).Idx) (k : Fin 512) :
    (bcol r).emb (ix2 k ((row r q).emb x 1)) = ix2 k ((chk r q).emb x 1) := by
  funext a
  fin_cases a
  · apply Fin.ext
    show 0 + 1 * k.val = k.val; omega
  · apply Fin.ext
    show col r + 1 * (0 + 1 * (x 1).val) = col r + 1 * (x 1).val; omega

theorem sum_prt (d : Dev nD) (r : Fin 3) (q : Dev nD) (x : (SC r).Idx) :
    ∑ k : Fin 512, Av d (ix2 ((row r q).emb x 0) k) * Bv d ((bcol r).emb (ix2 k ((row r q).emb x 1))) = prt Av Bv d ((chk r q).emb x) := by
  unfold prt
  refine Finset.sum_congr rfl fun k _ => ?_
  rw [emb_col, emb_row]
  rfl

theorem dotS_prt (d : Dev nD) : ∀ (r : Fin 3) (q : Dev nD) (x : (SC r).Idx), dotS Av Bv d r ((row r q).emb x) = prt Av Bv d ((chk r q).emb x)
  | 0 => fun q x => by
    refine Eq.trans ?_ (sum_prt Av Bv d 0 q x)
    unfold dotS
    pointwise [k0_pay1, bst]
  | 1 => fun q x => by
    refine Eq.trans ?_ (sum_prt Av Bv d 1 q x)
    unfold dotS
    pointwise [k0_pay8, k0_pay7, bst]
  | 2 => fun q x => by
    refine Eq.trans ?_ (sum_prt Av Bv d 2 q x)
    unfold dotS
    pointwise [k0_pay14, bst]

/-! ## All eight -/

/-- The device across those of a stripe's three masks that are marked. -/
def hop (r : Fin 3) (q : Dev nD) (b : Bool × Bool × Bool) : Dev nD :=
  px (if b.1 then mk r else 0) (px (if b.2.1 then mk (r + 1) else 0) (px (if b.2.2 then mk (r + 2) else 0) q))

theorem hop_bij : ∀ (r : Fin 3) (q : Dev nD), Function.Bijective (hop r q) := by decide +kernel

/-- A sum over the devices, in the order the exchanges take it. -/
theorem sum_hop (r : Fin 3) (q : Dev nD) (f : Dev nD → EReal) :
    ((f q + f (px (mk r) q)) + (f (px (mk (r + 1)) q) + f (px (mk r) (px (mk (r + 1)) q))))
      + ((f (px (mk (r + 2)) q) + f (px (mk r) (px (mk (r + 2)) q)))
        + (f (px (mk (r + 1)) (px (mk (r + 2)) q)) + f (px (mk r) (px (mk (r + 1)) (px (mk (r + 2)) q))))) = ∑ d, f d := by
  rw [← (hop_bij r q).sum_comp f]
  simp only [Fintype.sum_prod_type, Fintype.sum_bool, hop, if_true, if_false, Bool.false_eq_true, px_zero]
  abel

theorem back0 : ∀ (r : Fin 3) (q : Dev nD), px (mk r ^^^ 0) (px (mk r) q) = q := by decide +kernel
theorem back1 : ∀ (r : Fin 3) (q : Dev nD), px (mk r ^^^ mk (r + 1)) (px (mk r) (px (mk (r + 1)) q)) = q := by decide +kernel
theorem back2 : ∀ (r : Fin 3) (q : Dev nD), px (mk r ^^^ mk (r + 2)) (px (mk r) (px (mk (r + 2)) q)) = q := by decide +kernel
theorem back3 : ∀ (r : Fin 3) (q : Dev nD),
    px (mk r ^^^ (mk (r + 1) ^^^ mk (r + 2))) (px (mk r) (px (mk (r + 1)) (px (mk (r + 2)) q))) = q := by decide +kernel
theorem back4 : ∀ (r : Fin 3) (q : Dev nD), px (mk (r + 1) ^^^ mk (r + 2)) (px (mk (r + 1)) (px (mk (r + 2)) q)) = q := by decide +kernel

theorem pc0_at (d : Dev nD) (r : Fin 3) (q : Dev nD) (x : (SC r).Idx) : pc0 Av Bv d r q x = prt Av Bv d ((chk r q).emb x) := dotS_prt Av Bv d r q x

/-- A device's own chunk holds the sum of all eight partial products. -/
theorem zz_at (q : Dev nD) (r : Fin 3) (x : (SC r).Idx) : zz Av Bv q r x = ∑ d, prt Av Bv d ((chk r q).emb x) := by
  rw [← sum_hop r q fun d => prt Av Bv d ((chk r q).emb x)]
  show ((pc0 Av Bv q r q x + pc0 Av Bv (px (mk r) q) r (px (mk r ^^^ 0) (px (mk r) q)) x)
    + (pc0 Av Bv (px (mk (r + 1)) q) r (px (mk (r + 1)) (px (mk (r + 1)) q)) x
      + pc0 Av Bv (px (mk r) (px (mk (r + 1)) q)) r (px (mk r ^^^ mk (r + 1)) (px (mk r) (px (mk (r + 1)) q))) x))
    + ((pc0 Av Bv (px (mk (r + 2)) q) r (px (mk (r + 2)) (px (mk (r + 2)) q)) x
      + pc0 Av Bv (px (mk r) (px (mk (r + 2)) q)) r (px (mk r ^^^ mk (r + 2)) (px (mk r) (px (mk (r + 2)) q))) x)
      + (pc0 Av Bv (px (mk (r + 1)) (px (mk (r + 2)) q)) r (px (mk (r + 1) ^^^ mk (r + 2)) (px (mk (r + 1)) (px (mk (r + 2)) q))) x
        + pc0 Av Bv (px (mk r) (px (mk (r + 1)) (px (mk (r + 2)) q))) r
            (px (mk r ^^^ (mk (r + 1) ^^^ mk (r + 2))) (px (mk r) (px (mk (r + 1)) (px (mk (r + 2)) q)))) x)) = _
  rw [back0, back1, back2, back3, back4, px_px, px_px]
  simp only [pc0_at]

/-- The activation of an entry. -/
def silu (z : EReal) : EReal := z * Ideal.logistic z

theorem outAt_at (c : Dev nD) (y : S1024x1024.Idx) : outAt Av Bv c y = silu (∑ d, prt Av Bv d y) := by
  unfold outAt
  have hy := Classical.choose_spec (chk_cover y)
  generalize Classical.choose (chk_cover y) = p at hy ⊢
  obtain ⟨r, q, z⟩ := p
  rw [← hy]
  dsimp only
  rw [← zz_at]
  unfold oval
  split
  · rename_i h
    have hq := px_lbl c q
    rw [h, px_zero] at hq
    subst hq
    rfl
  · rw [px_lbl]; rfl

theorem exp_nonneg : ∀ x : EReal, 0 ≤ Ideal.exp x := by
  intro x
  induction x with
  | bot => exact le_rfl
  | top => exact le_top
  | coe r => exact EReal.coe_nonneg.mpr (Real.exp_pos r).le

/-- The activation, as a quotient. -/
theorem silu_eq (z : EReal) : silu z = Ideal.div z (1 + Ideal.exp (-z)) := by
  have h : (1 + Ideal.exp (-z) : EReal) ≠ 0 := by
    have h1 : (1 : EReal) ≤ 1 + Ideal.exp (-z) := le_add_of_nonneg_right (exp_nonneg _)
    intro h0
    rw [h0] at h1
    exact absurd h1 (not_le.mpr zero_lt_one)
  unfold silu Ideal.logistic Ideal.div
  rw [if_neg h, if_neg h, one_mul]

end Dots

/-! ## The whole factors -/

section Whole
variable (X : FVec Ideal ⟨2, ![1024, 4096]⟩ .f32) (Y : FVec Ideal ⟨2, ![4096, 1024]⟩ .f32)

/-- A term of an entry's contraction, by its place along the contracted axis. -/
def term (y : S1024x1024.Idx) (n : ℕ) : EReal :=
  if h : n < 4096 then X (ix2 (y 0) ⟨n, h⟩) * Y (ix2 ⟨n, h⟩ (y 1)) else 0

theorem prt_block (d : Dev nD) (y : S1024x1024.Idx) :
    prt (fun d => Layout.block ⟨2, ![1024, 512]⟩ ⟨2, ![1024, 4096]⟩ 1 8 d X) (fun d => Layout.block ⟨2, ![512, 1024]⟩ ⟨2, ![4096, 1024]⟩ 0 8 d Y) d y
      = ∑ k : Fin 512, term X Y y (d.val * 512 + k.val) := by
  refine Finset.sum_congr rfl fun k _ => ?_
  have hd : d.val < 8 := d.isLt
  have hk : d.val * 512 + k.val < 4096 := by omega
  unfold term
  rw [dif_pos hk]
  refine congrArg₂ (· * ·) (congrArg X ?_) (congrArg Y ?_)
  · funext a; fin_cases a <;> rfl
  · funext a; fin_cases a <;> rfl

theorem sum_block (y : S1024x1024.Idx) :
    ∑ d, prt (fun d => Layout.block ⟨2, ![1024, 512]⟩ ⟨2, ![1024, 4096]⟩ 1 8 d X) (fun d => Layout.block ⟨2, ![512, 1024]⟩ ⟨2, ![4096, 1024]⟩ 0 8 d Y) d y
      = ∑ n : Fin 4096, X (ix2 (y 0) n) * Y (ix2 n (y 1)) := by
  rw [Finset.sum_congr rfl fun d _ => prt_block X Y d y]
  refine (Fin.sum_univ_univ_mul_add 8 512 (term X Y y)).trans ?_
  exact Finset.sum_congr rfl fun n _ => dif_pos n.isLt

/-- What the one device computes from the whole factors. -/
abbrev refOut : FVec Ideal S1024x1024 .f32 :=
  Host.divf (Host.dotGeneral Cert.ReferenceIdeal.dot_S1024x4096_S4096x1024_S1024x1024_1_0_0_1_n_n none X Y)
    (addf (broadcastInDim S1024x1024 ![] Cert.ReferenceIdeal.Facts₀.bcast_S_S1024x1024 (constant Cert.ReferenceIdeal.S_ .f32 0x3F800000#32))
      (Host.exp (Host.negf (Host.dotGeneral Cert.ReferenceIdeal.dot_S1024x4096_S4096x1024_S1024x1024_1_0_0_1_n_n none X Y))))

theorem refOut_at (y : S1024x1024.Idx) : refOut X Y y = silu (∑ n : Fin 4096, X (ix2 (y 0) n) * Y (ix2 n (y 1))) := by
  rw [silu_eq]
  unfold refOut
  pointwise []

theorem outAt_eq (c : Dev nD) :
    outAt (fun d => Layout.block ⟨2, ![1024, 512]⟩ ⟨2, ![1024, 4096]⟩ 1 8 d X) (fun d => Layout.block ⟨2, ![512, 1024]⟩ ⟨2, ![4096, 1024]⟩ 0 8 d Y) c
      = refOut X Y :=
  funext fun y => by rw [outAt_at, sum_block, refOut_at]

end Whole

/-! ## The arrays -/

section Arrays
variable {F : FTy → Type} [FloatOps F] (m : (ℓ : Loc nD τ sig) → Buf (Elt F) ℓ) (ρ : Dev nD → PrngReg)

theorem inA_eq (c : Dev nD) : inA m c = m ((c : Thread nD τ).loc main_arg0) :=
  Memref.read_access_unit_zero (Elt F) main_arg0 (funext fun a => by fin_cases a <;> decide) (fun a => by fin_cases a <;> decide) _
theorem inB_eq (c : Dev nD) : inB m c = m ((c : Thread nD τ).loc main_arg1) :=
  Memref.read_access_unit_zero (Elt F) main_arg1 (funext fun a => by fin_cases a <;> decide) (fun a => by fin_cases a <;> decide) _

/-- The result after the run. -/
theorem finalA_2 (c : Dev nD) : finalA m ρ c (2 : Fin 3) = outAt (inA m) (inB m) c := by
  have h : (win0_2.blk (0 : Fin 1)).view.read (Elt F) (finalA m ρ c (2 : Fin 3)) = outAt (inA m) (inB m) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (funext fun a => by fin_cases a <;> decide) (fun a => by fin_cases a <;> decide) _).symm.trans h

/-- The run, read at the buffers. -/
theorem run_bufs : θ_run defs (onTc (τ := τ) (main (F := F))) ⟨m, fun _ => 0, ρ⟩ (fun r => (∀ c : Dev nD,
    r.2.mem ((c.tc : Thread nD τ).loc main_v1) = outAt (fun d => m ((d : Thread nD τ).loc main_arg0)) (fun d => m ((d : Thread nD τ).loc main_arg1)) c
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun r h => ⟨fun c => ⟨((h.1 c (2 : Fin 3)).trans (finalA_2 m ρ c)).trans
      (by rw [show inA m = _ from funext (inA_eq m), show inB m = _ from funext (inB_eq m)]),
    (h.1 c (0 : Fin 3)).trans (finalA_0 m ρ c), (h.1 c (1 : Fin 3)).trans (finalA_1 m ρ c)⟩, h.2⟩) (run_main m ρ)

end Arrays

end Cert.KernelIdeal.Run

end
-- ==== Proof.lean ====
/-
# The claims

Every claim is read off the two runs: the eight devices' (`Cert.KernelIdeal.Run.run_bufs`, over any float values, so that
it serves the program and its idealization alike) and the one device's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-! The program and its idealization have one text: their body tables are one. -/

theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  obtain ⟨_ | n, hl⟩ := l
  · rfl
  · exact absurd hl (Nat.not_lt.2 (Nat.le_add_left _ _))

theorem defs_eq {F : FTy → Type} [FloatOps F] : Cert.Kernel.defs (F := F) = Cert.KernelIdeal.defs (F := F) :=
  congrArg (Pipeline.defs Cert.Kernel.pcfgs) defs₀_eq

/-- The program ends, its arguments unchanged, its counters at zero. -/
theorem frame_kernel : Cert.quiescent_Kernel := fun m g _ => by
  have h := (θ_run (Cert.KernelIdeal.defs (F := Bits)) _ _).mono (fun _ h => And.intro (fun c => (h.1 c).2) h.2)
    (Cert.KernelIdeal.Run.run_bufs (F := Bits) m g)
  rw [defs_eq]
  exact h

/-- So does its idealization, -/
theorem frame_kernelIdeal : Cert.quiescent_KernelIdeal := fun m g _ =>
  (θ_run Cert.KernelIdeal.defs _ _).mono (fun _ h => ⟨fun c => (h.1 c).2, h.2⟩) (Cert.KernelIdeal.Run.run_bufs (F := Ideal) m g)

/-- and the reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- In exact arithmetic every device ends with the reference's result. -/
theorem algebraic : Cert.algebraic_KernelIdeal_ReferenceIdeal := fun m g m' g' _ hag =>
  ⟨Cert.KernelIdeal.Run.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨((h.1 c).1.trans
        (congrArg₂ (fun A B => Cert.KernelIdeal.Run.outAt A B c) (funext fun d => (hag d).1) (funext fun d => (hag d).2))).trans
        (Cert.KernelIdeal.Run.outAt_eq _ _ c), (h.1 c).2⟩)
      (Cert.KernelIdeal.Run.run_bufs (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
